-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  reducesTo_S32x256_S_d0_1 : S32x256.ReducesTo [0, 1] S_
  h_S_ : 0 < S_.numel
  bcast_S_S32 : S_.BroadcastsInDim S32 (![] : Fin 0 → Fin S32.rank)
  reducesTo_S32_S_d0 : S32.ReducesTo [0] S_
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  bcast_S_S256x32x16x128 : S_.BroadcastsInDim S256x32x16x128 (![] : Fin 0 → Fin S256x32x16x128.rank)
  reducesTo_S256x32x16x128_S_d0_1_2_3 : S256x32x16x128.ReducesTo [0, 1, 2, 3] S_

variable [Facts]

def fn_part1 {F : FTy → Type} [FloatOps F] (main_arg1 : FVec F S256x32x16x128 .f32) (main_v17 : IVec S_ 1) (main_v18 : FVec F S32x1x16x128 .f32) : IVec S_ 1 :=
  let main_cst : FVec F S_ .f32 := constant S_ .f32 0x7F800000#32
  let main_v19 : FVec F S32x1x16x128 .f32 := broadcastInDim S32x1x16x128 ![] bcast_S_S32x1x16x128 main_cst
  let main_v20 : IVec S32x1x16x128 1 := cmpf .olt main_v18 main_v19
  let main_c_4 : IVec S_ 1 := constantI S_ 1 1#1
  let main_v21 : IVec S_ 1 := (fun x v => Host.reduce IntOp.andi x v reducesTo_S32x1x16x128_S_d0_1_2_3 h_S_) main_v20 main_c_4
  let main_v22 : IVec S_ 1 := andi main_v17 main_v21
  let main_v23 : FVec F S256x32x16x128 .f32 := Host.absf main_arg1
  let main_cst_5 : FVec F S_ .f32 := constant S_ .f32 0x7F800000#32
  let main_v24 : FVec F S256x32x16x128 .f32 := broadcastInDim S256x32x16x128 ![] bcast_S_S256x32x16x128 main_cst_5
  let main_v25 : IVec S256x32x16x128 1 := cmpf .olt main_v23 main_v24
  let main_c_6 : IVec S_ 1 := constantI S_ 1 1#1
  let main_v26 : IVec S_ 1 := (fun x v => Host.reduce IntOp.andi x v reducesTo_S256x32x16x128_S_d0_1_2_3 h_S_) main_v25 main_c_6
  let main_v27 : IVec S_ 1 := andi main_v22 main_v26
  main_v27

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 512#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : IVec S32x256 1 := noti main_v5
  let main_v12 : IVec S32x256 1 := ori main_v10 main_v11
  let main_c_1 : IVec S_ 1 := constantI S_ 1 1#1
  let main_v13 : IVec S_ 1 := (fun x v => Host.reduce IntOp.andi x v reducesTo_S32x256_S_d0_1 h_S_) main_v12 main_c_1
  let main_c_2 : IVec S_ 32 := constantI S_ 32 1#32
  let main_v14 : IVec S32 32 := broadcastInDim S32 ![] bcast_S_S32 main_c_2
  let main_v15 : IVec S32 1 := cmpi .sge main_arg4 main_v14
  let main_c_3 : IVec S_ 1 := constantI S_ 1 1#1
  let main_v16 : IVec S_ 1 := (fun x v => Host.reduce IntOp.andi x v reducesTo_S32_S_d0 h_S_) main_v15 main_c_3
  let main_v17 : IVec S_ 1 := andi main_v13 main_v16
  let main_v18 : FVec F S32x1x16x128 .f32 := Host.absf main_arg0
  fn_part1 (F := F) main_arg1 main_v17 main_v18
-- ==== Pre_served_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  reducesTo_S32x256_S_d0_1 : S32x256.ReducesTo [0, 1] S_
  h_S_ : 0 < S_.numel
  bcast_S_S32 : S_.BroadcastsInDim S32 (![] : Fin 0 → Fin S32.rank)
  reducesTo_S32_S_d0 : S32.ReducesTo [0] S_
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  bcast_S_S512x32x16x128 : S_.BroadcastsInDim S512x32x16x128 (![] : Fin 0 → Fin S512x32x16x128.rank)
  reducesTo_S512x32x16x128_S_d0_1_2_3 : S512x32x16x128.ReducesTo [0, 1, 2, 3] S_

variable [Facts]

def fn_part1 {F : FTy → Type} [FloatOps F] (main_arg1 : FVec F S512x32x16x128 .f32) (main_v17 : IVec S_ 1) (main_v18 : FVec F S32x1x16x128 .f32) : IVec S_ 1 :=
  let main_cst : FVec F S_ .f32 := constant S_ .f32 0x7F800000#32
  let main_v19 : FVec F S32x1x16x128 .f32 := broadcastInDim S32x1x16x128 ![] bcast_S_S32x1x16x128 main_cst
  let main_v20 : IVec S32x1x16x128 1 := cmpf .olt main_v18 main_v19
  let main_c_4 : IVec S_ 1 := constantI S_ 1 1#1
  let main_v21 : IVec S_ 1 := (fun x v => Host.reduce IntOp.andi x v reducesTo_S32x1x16x128_S_d0_1_2_3 h_S_) main_v20 main_c_4
  let main_v22 : IVec S_ 1 := andi main_v17 main_v21
  let main_v23 : FVec F S512x32x16x128 .f32 := Host.absf main_arg1
  let main_cst_5 : FVec F S_ .f32 := constant S_ .f32 0x7F800000#32
  let main_v24 : FVec F S512x32x16x128 .f32 := broadcastInDim S512x32x16x128 ![] bcast_S_S512x32x16x128 main_cst_5
  let main_v25 : IVec S512x32x16x128 1 := cmpf .olt main_v23 main_v24
  let main_c_6 : IVec S_ 1 := constantI S_ 1 1#1
  let main_v26 : IVec S_ 1 := (fun x v => Host.reduce IntOp.andi x v reducesTo_S512x32x16x128_S_d0_1_2_3 h_S_) main_v25 main_c_6
  let main_v27 : IVec S_ 1 := andi main_v22 main_v26
  main_v27

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 512#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : IVec S32x256 1 := noti main_v5
  let main_v12 : IVec S32x256 1 := ori main_v10 main_v11
  let main_c_1 : IVec S_ 1 := constantI S_ 1 1#1
  let main_v13 : IVec S_ 1 := (fun x v => Host.reduce IntOp.andi x v reducesTo_S32x256_S_d0_1 h_S_) main_v12 main_c_1
  let main_c_2 : IVec S_ 32 := constantI S_ 32 1#32
  let main_v14 : IVec S32 32 := broadcastInDim S32 ![] bcast_S_S32 main_c_2
  let main_v15 : IVec S32 1 := cmpi .sge main_arg4 main_v14
  let main_c_3 : IVec S_ 1 := constantI S_ 1 1#1
  let main_v16 : IVec S_ 1 := (fun x v => Host.reduce IntOp.andi x v reducesTo_S32_S_d0 h_S_) main_v15 main_c_3
  let main_v17 : IVec S_ 1 := andi main_v13 main_v16
  let main_v18 : FVec F S32x1x16x128 .f32 := Host.absf main_arg0
  fn_part1 (F := F) main_arg1 main_v17 main_v18
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x256x1 : Shape := ⟨3, ![32, 256, 1]⟩
abbrev S1x1x256 : Shape := ⟨3, ![1, 1, 256]⟩
abbrev S32x256x256 : Shape := ⟨3, ![32, 256, 256]⟩
abbrev S32x256x32 : Shape := ⟨3, ![32, 256, 32]⟩
abbrev S32x8192 : Shape := ⟨2, ![32, 8192]⟩
abbrev S32x16x128 : Shape := ⟨3, ![32, 16, 128]⟩
abbrev S16x32x128 : Shape := ⟨3, ![16, 32, 128]⟩
abbrev S8x32x128 : Shape := ⟨3, ![8, 32, 128]⟩
abbrev S8192x16x128 : Shape := ⟨3, ![8192, 16, 128]⟩
abbrev S2x8192x128 : Shape := ⟨3, ![2, 8192, 128]⟩
abbrev S8x3x32x128 : Shape := ⟨4, ![8, 3, 32, 128]⟩
abbrev S2 : Shape := ⟨1, ![2]⟩
abbrev S8 : Shape := ⟨1, ![8]⟩
abbrev S1 : Shape := ⟨1, ![1]⟩
abbrev S1x8192x128 : Shape := ⟨3, ![1, 8192, 128]⟩
abbrev S8192x128 : Shape := ⟨2, ![8192, 128]⟩
abbrev S8192x1x128 : Shape := ⟨3, ![8192, 1, 128]⟩
abbrev S1x32x128 : Shape := ⟨3, ![1, 32, 128]⟩
abbrev S32x128 : Shape := ⟨2, ![32, 128]⟩
abbrev S1x1x32x128 : Shape := ⟨4, ![1, 1, 32, 128]⟩
abbrev S1x3x32x128 : Shape := ⟨4, ![1, 3, 32, 128]⟩
abbrev S3x32x128 : Shape := ⟨3, ![3, 32, 128]⟩
abbrev S8x1x32x128 : Shape := ⟨4, ![8, 1, 32, 128]⟩

abbrev nBuf : Space → Nat
  | .hbm => 59
  | .vmem => 7
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S1x256, .i32⟩
  | .hbm, ⟨24, _⟩ => ⟨S32x1, .i32⟩
  | .hbm, ⟨25, _⟩ => ⟨S32x256, .i32⟩
  | .hbm, ⟨26, _⟩ => ⟨S32x256, .i32⟩
  | .hbm, ⟨27, _⟩ => ⟨S32x256, .i1⟩
  | .hbm, ⟨28, _⟩ => ⟨S32x256x1, .i32⟩
  | .hbm, ⟨29, _⟩ => ⟨S1x1x256, .i32⟩
  | .hbm, ⟨30, _⟩ => ⟨S32x256x256, .i32⟩
  | .hbm, ⟨31, _⟩ => ⟨S32x256x256, .i32⟩
  | .hbm, ⟨32, _⟩ => ⟨S32x256x256, .i1⟩
  | .hbm, ⟨33, _⟩ => ⟨S32x256x1, .i1⟩
  | .hbm, ⟨34, _⟩ => ⟨S32x256x256, .i1⟩
  | .hbm, ⟨35, _⟩ => ⟨S32x256x256, .i1⟩
  | .hbm, ⟨36, _⟩ => ⟨S32x256x256, .i32⟩
  | .hbm, ⟨37, _⟩ => ⟨S32x256x256, .f32⟩
  | .hbm, ⟨38, _⟩ => ⟨S_, .f32⟩
  | .hbm, ⟨39, _⟩ => ⟨S32x256, .f32⟩
  | .hbm, ⟨40, _⟩ => ⟨S32x256x32, .f32⟩
  | .hbm, ⟨41, _⟩ => ⟨S32x8192, .f32⟩
  | .hbm, ⟨42, _⟩ => ⟨S32x16x128, .f32⟩
  | .hbm, ⟨43, _⟩ => ⟨S16x32x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x32x128, .f32⟩
  | .hbm, ⟨54, _⟩ => ⟨S8192x16x128, .f32⟩
  | .hbm, ⟨55, _⟩ => ⟨S8192x16x128, .f32⟩
  | .hbm, ⟨56, _⟩ => ⟨S16x32x128, .f32⟩
  | .hbm, ⟨57, _⟩ => ⟨S32x16x128, .f32⟩
  | .hbm, ⟨58, _⟩ => ⟨S32x1x16x128, .f32⟩
  | .local _ .vmem, ⟨0, _⟩ => ⟨S8x32x128, .f32⟩
  | .local _ .vmem, ⟨1, _⟩ => ⟨S32x8192, .f32⟩
  | .local _ .vmem, ⟨2, _⟩ => ⟨S16x32x128, .f32⟩
  | .local _ .vmem, ⟨3, _⟩ => ⟨S2x8192x128, .f32⟩
  | .local _ .vmem, ⟨4, _⟩ => ⟨S2x8192x128, .f32⟩
  | .local _ .vmem, ⟨5, _⟩ => ⟨S8x3x32x128, .f32⟩
  | .local _ .vmem, ⟨6, _⟩ => ⟨S8x3x32x128, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v12 : BitVec 32 := Scalar.muli v6 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v14 : BitVec 32 := Scalar.muli v7 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
def k0_off1 (d0 : Dev nD) (c0_i32_13 : BitVec 32) : Fin 3 → Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v22 : BitVec 32 := Scalar.addi v8 c0_i32_13
  let c0_i32_19 : BitVec 32 := 0#32
  ![0, v22.toNat, 0]
def k0_dev3 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v95 : BitVec 32 := Scalar.muli v2 c2_i32_82
  let v96 : BitVec 32 := Scalar.addi c0_i32_83 v95
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v97 : BitVec 32 := Scalar.muli v6 c1_i32_84
  let v98 : BitVec 32 := Scalar.addi v96 v97
  v98.toNat
def k0_dev4 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v167 : BitVec 32 := Scalar.muli v2 c2_i32_149
  let v168 : BitVec 32 := Scalar.addi c0_i32_150 v167
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v169 : BitVec 32 := Scalar.muli v6 c1_i32_151
  let v170 : BitVec 32 := Scalar.addi v168 v169
  v170.toNat
def k0_dev5 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_215 : BitVec 32 := 2#32
  let v239 : BitVec 32 := Scalar.muli v2 c2_i32_215
  let v240 : BitVec 32 := Scalar.addi c0_i32_216 v239
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_217 : BitVec 32 := 1#32
  let v241 : BitVec 32 := Scalar.muli v6 c1_i32_217
  let v242 : BitVec 32 := Scalar.addi v240 v241
  v242.toNat
def k0_dev6 (d0 : Dev nD) : Nat :=
  let c0_i32_281 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_280 : BitVec 32 := 2#32
  let v311 : BitVec 32 := Scalar.muli v2 c2_i32_280
  let v312 : BitVec 32 := Scalar.addi c0_i32_281 v311
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_282 : BitVec 32 := 1#32
  let v313 : BitVec 32 := Scalar.muli v6 c1_i32_282
  let v314 : BitVec 32 := Scalar.addi v312 v313
  v314.toNat
def k0_dev7 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v383 : BitVec 32 := Scalar.muli v2 c2_i32_345
  let v384 : BitVec 32 := Scalar.addi c0_i32_346 v383
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_347 : BitVec 32 := 1#32
  let v385 : BitVec 32 := Scalar.muli v6 c1_i32_347
  let v386 : BitVec 32 := Scalar.addi v384 v385
  v386.toNat
def k0_dev8 (d0 : Dev nD) : Nat :=
  let c0_i32_411 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_410 : BitVec 32 := 2#32
  let v455 : BitVec 32 := Scalar.muli v2 c2_i32_410
  let v456 : BitVec 32 := Scalar.addi c0_i32_411 v455
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_412 : BitVec 32 := 1#32
  let v457 : BitVec 32 := Scalar.muli v6 c1_i32_412
  let v458 : BitVec 32 := Scalar.addi v456 v457
  v458.toNat
def k0_dev9 (d0 : Dev nD) : Nat :=
  let c0_i32_476 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_475 : BitVec 32 := 2#32
  let v527 : BitVec 32 := Scalar.muli v2 c2_i32_475
  let v528 : BitVec 32 := Scalar.addi c0_i32_476 v527
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_477 : BitVec 32 := 1#32
  let v529 : BitVec 32 := Scalar.muli v6 c1_i32_477
  let v530 : BitVec 32 := Scalar.addi v528 v529
  v530.toNat
def k0_dev10 (d0 : Dev nD) : Nat :=
  let c0_i32_529 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_528 : BitVec 32 := 2#32
  let v586 : BitVec 32 := Scalar.muli v2 c2_i32_528
  let v587 : BitVec 32 := Scalar.addi c0_i32_529 v586
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_530 : BitVec 32 := 1#32
  let v588 : BitVec 32 := Scalar.muli v6 c1_i32_530
  let v589 : BitVec 32 := Scalar.addi v587 v588
  v589.toNat
def k0_off2 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v750 : Index := Scalar.indexCast v8
  let c0_753 : Index := 0#32
  let c0_754 : Index := 0#32
  ![v750.toNat, 0, 0]
def k0_off3 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let c0_i32_760 : BitVec 32 := 0#32
  let c0_i32_761 : BitVec 32 := 0#32
  ![v8.toNat, 0, 0]
def k0_dev11 (d0 : Dev nD) : Nat :=
  let c0_i32_758 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_757 : BitVec 32 := 2#32
  let v752 : BitVec 32 := Scalar.muli v7 c2_i32_757
  let v753 : BitVec 32 := Scalar.addi c0_i32_758 v752
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_759 : BitVec 32 := 1#32
  let v754 : BitVec 32 := Scalar.muli v5 c1_i32_759
  let v755 : BitVec 32 := Scalar.addi v753 v754
  v755.toNat
abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩
abbrev S32x256x1 : Shape := ⟨3, ![32, 256, 1]⟩
abbrev S32x256x32x16x128 : Shape := ⟨5, ![32, 256, 32, 16, 128]⟩
abbrev S32x16x1x256x32 : Shape := ⟨5, ![32, 16, 1, 256, 32]⟩
abbrev S32x1x1x256x1 : Shape := ⟨5, ![32, 1, 1, 256, 1]⟩
abbrev S32x16x1 : Shape := ⟨3, ![32, 16, 1]⟩
abbrev S32x16x1x1x1 : Shape := ⟨5, ![32, 16, 1, 1, 1]⟩
abbrev S32x16x128x1 : Shape := ⟨4, ![32, 16, 128, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S256, .i32⟩
  | .hbm, ⟨6, _⟩ => ⟨S1x256, .i32⟩
  | .hbm, ⟨7, _⟩ => ⟨S32x1, .i32⟩
  | .hbm, ⟨8, _⟩ => ⟨S32x256, .i32⟩
  | .hbm, ⟨9, _⟩ => ⟨S32x256, .i32⟩
  | .hbm, ⟨10, _⟩ => ⟨S32x256, .i1⟩
  | .hbm, ⟨11, _⟩ => ⟨S_, .i32⟩
  | .hbm, ⟨12, _⟩ => ⟨S32x256, .i32⟩
  | .hbm, ⟨13, _⟩ => ⟨S32x256, .i1⟩
  | .hbm, ⟨14, _⟩ => ⟨S_, .i32⟩
  | .hbm, ⟨15, _⟩ => ⟨S32x256, .i32⟩
  | .hbm, ⟨16, _⟩ => ⟨S32x256, .i32⟩
  | .hbm, ⟨17, _⟩ => ⟨S32x256, .i32⟩
  | .hbm, ⟨18, _⟩ => ⟨S32x256x1, .i32⟩
  | .hbm, ⟨19, _⟩ => ⟨S32x256x32x16x128, .f32⟩
  | .hbm, ⟨20, _⟩ => ⟨S_, .i32⟩
  | .hbm, ⟨21, _⟩ => ⟨S32x256, .i32⟩
  | .hbm, ⟨22, _⟩ => ⟨S32x256, .i1⟩
  | .hbm, ⟨23, _⟩ => ⟨S_, .i32⟩
  | .hbm, ⟨24, _⟩ => ⟨S32x256, .i32⟩
  | .hbm, ⟨25, _⟩ => ⟨S32x256, .i32⟩
  | .hbm, ⟨26, _⟩ => ⟨S32x256, .i32⟩
  | .hbm, ⟨27, _⟩ => ⟨S32x256x1, .i32⟩
  | .hbm, ⟨28, _⟩ => ⟨S32x256x32x16x128, .f32⟩
  | .hbm, ⟨29, _⟩ => ⟨S32x16x1x256x32, .f32⟩
  | .hbm, ⟨30, _⟩ => ⟨S_, .f32⟩
  | .hbm, ⟨31, _⟩ => ⟨S32x16x1x256x32, .f32⟩
  | .hbm, ⟨32, _⟩ => ⟨S32x16x1x256x32, .f32⟩
  | .hbm, ⟨33, _⟩ => ⟨S32x1x1x256x1, .i1⟩
  | .hbm, ⟨34, _⟩ => ⟨S_, .f32⟩
  | .hbm, ⟨35, _⟩ => ⟨S_, .f32⟩
  | .hbm, ⟨36, _⟩ => ⟨S32x16x1x256x32, .i1⟩
  | .hbm, ⟨37, _⟩ => ⟨S32x16x1x256x32, .f32⟩
  | .hbm, ⟨38, _⟩ => ⟨S32x16x1x256x32, .f32⟩
  | .hbm, ⟨39, _⟩ => ⟨S_, .f32⟩
  | .hbm, ⟨40, _⟩ => ⟨S32x16x1, .f32⟩
  | .hbm, ⟨41, _⟩ => ⟨S32x16x1x1x1, .f32⟩
  | .hbm, ⟨42, _⟩ => ⟨S32x16x1x256x32, .f32⟩
  | .hbm, ⟨43, _⟩ => ⟨S32x16x1x256x32, .f32⟩
  | .hbm, ⟨44, _⟩ => ⟨S32x16x1x256x32, .f32⟩
  | .hbm, ⟨45, _⟩ => ⟨S_, .f32⟩
  | .hbm, ⟨46, _⟩ => ⟨S32x16x1, .f32⟩
  | .hbm, ⟨47, _⟩ => ⟨S32x16x1x1x1, .f32⟩
  | .hbm, ⟨48, _⟩ => ⟨S32x16x1x256x32, .f32⟩
  | .hbm, ⟨49, _⟩ => ⟨S32x16x1x256x32, .f32⟩
  | .hbm, ⟨50, _⟩ => ⟨S32x16x128x1, .f32⟩
  | .hbm, ⟨51, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Prog.lean ====
/-
  The kernel's body as a program over a symbolic head.

  The printed body is a straight line of eight heads. Here one head is written once, as three
  functions of its number: `issue` (the two copies that bring its keys and values), `compute` (the
  waits, the partial softmax, the send to the peer along `y`) and `settle` (the two waits of that
  send). `body_eq` (module BodyEq) says that the printed body is their composition.
-/
module

public import proofs.«01_k».proof.Proof.Gen.KernelIdeal.Points
public import proofs.«01_k».proof.Proof.Gen.KernelIdeal.Launch

@[expose] public section

noncomputable section

namespace Cert.KernelIdeal.Paged

open Idealize.ShloMosaic Idealize.SL.Sem Cert.KernelIdeal Cert.KernelIdeal.Facts₀ Cert.KernelIdeal.Facts

variable {F : FTy → Type} [FloatOps F]

/-! ## The buffers -/

abbrev qM : Memref sig .tc .vmem S8x32x128 .f32 := Memref.whole cc0_stg0_0
abbrev wM : Memref sig .tc .vmem S32x8192 .f32 := Memref.whole cc0_stg1_0
abbrev oM : Memref sig .tc .vmem S16x32x128 .f32 := Memref.whole cc0_stg2_0
abbrev kM : Memref sig .tc .hbm S8192x16x128 .f32 := Memref.whole main_v39
abbrev vM : Memref sig .tc .hbm S8192x16x128 .f32 := Memref.whole main_v40
abbrev kB : Memref sig .tc .vmem S2x8192x128 .f32 := Memref.whole cc0_scratch0
abbrev vB : Memref sig .tc .vmem S2x8192x128 .f32 := Memref.whole cc0_scratch1
abbrev pB : Memref sig .tc .vmem S8x3x32x128 .f32 := Memref.whole cc0_scratch2
abbrev cB : Memref sig .tc .vmem S8x3x32x128 .f32 := Memref.whole cc0_scratch3

/-! ## The pieces, by slot and by head -/

theorem slot_inb (s : Fin 2) : ∀ a, (![s.val, 0, 0] : Fin 3 → ℕ) a + S1x8192x128.size a ≤ S2x8192x128.size a := by
  revert s; decide
theorem head_inb (h : Fin 8) : ∀ a, (![h.val, 0, 0] : Fin 3 → ℕ) a + S1x32x128.size a ≤ S8x32x128.size a := by
  revert h; decide
theorem part_inb (h : Fin 8) (j : Fin 3) :
    ∀ a, (![h.val, j.val, 0, 0] : Fin 4 → ℕ) a + S1x1x32x128.size a ≤ S8x3x32x128.size a := by
  revert h j; decide
theorem pack_inb (h : Fin 8) : ∀ a, (![h.val, 0, 0, 0] : Fin 4 → ℕ) a + S1x3x32x128.size a ≤ S8x3x32x128.size a := by
  revert h; decide
theorem sem2_inb (s : Fin 2) : ∀ a, (![s.val] : Fin 1 → ℕ) a + S1.size a ≤ S2.size a := by
  revert s; decide
theorem sem8_inb (h : Fin 8) : ∀ a, (![h.val] : Fin 1 → ℕ) a + S1.size a ≤ S8.size a := by
  revert h; decide

/-- The slot of a head: heads alternate between the two. -/
def slotOf (h : Fin 8) : Fin 2 := ⟨h.val % 2, Nat.mod_lt _ (by decide)⟩

/-- One slot of the key buffer. -/
abbrev kSlot (s : Fin 2) : Memref sig .tc .vmem S8192x128 .f32 :=
  (kB.slice (Rect.unit (s := S2x8192x128) ![s.val, 0, 0] S1x8192x128.size (slot_inb s)) (fun _ => rfl)).squeeze S8192x128 squeezes_S1x8192x128_S8192x128
/-- One slot of the value buffer. -/
abbrev vSlot (s : Fin 2) : Memref sig .tc .vmem S8192x128 .f32 :=
  (vB.slice (Rect.unit (s := S2x8192x128) ![s.val, 0, 0] S1x8192x128.size (slot_inb s)) (fun _ => rfl)).squeeze S8192x128 squeezes_S1x8192x128_S8192x128
/-- One head of the keys a device holds. -/
abbrev kHead (d : Dev nD) (h : Fin 8) : Memref sig .tc .hbm S8192x128 .f32 :=
  (kM.slice (Rect.unit (s := S8192x16x128) (k0_off1 d (BitVec.ofNat 32 h.val)) S8192x1x128.size (k0_off1_inb d h)) (fun _ => rfl)).squeeze S8192x128 squeezes_S8192x1x128_S8192x128
/-- One head of the values a device holds. -/
abbrev vHead (d : Dev nD) (h : Fin 8) : Memref sig .tc .hbm S8192x128 .f32 :=
  (vM.slice (Rect.unit (s := S8192x16x128) (k0_off1 d (BitVec.ofNat 32 h.val)) S8192x1x128.size (k0_off1_inb d h)) (fun _ => rfl)).squeeze S8192x128 squeezes_S8192x1x128_S8192x128
/-- One head's partial result. -/
abbrev pHead (h : Fin 8) : Memref sig .tc .vmem S3x32x128 .f32 :=
  (pB.slice (Rect.unit (s := S8x3x32x128) ![h.val, 0, 0, 0] S1x3x32x128.size (pack_inb h)) (fun _ => rfl)).squeeze S3x32x128 squeezes_S1x3x32x128_S3x32x128
/-- Where the peer's partial result of one head lands. -/
abbrev cHead (h : Fin 8) : Memref sig .tc .vmem S3x32x128 .f32 :=
  (cB.slice (Rect.unit (s := S8x3x32x128) ![h.val, 0, 0, 0] S1x3x32x128.size (pack_inb h)) (fun _ => rfl)).squeeze S3x32x128 squeezes_S1x3x32x128_S3x32x128
/-- The half of the output a device merges itself. -/
abbrev oHalf (d : Dev nD) : Memref sig .tc .vmem S8x32x128 .f32 :=
  oM.slice (Rect.unit (s := S16x32x128) (k0_off3 d) S8x32x128.size (k0_off3_inb d)) (fun _ => rfl)

abbrev kSem (s : Fin 2) : DmaSem sig :=
  ((cc0_scratch4.slice (Rect.unit (s := S2) ![s.val] S1.size (sem2_inb s))).squeeze S_ squeezes_S1_S_).sem
abbrev vSem (s : Fin 2) : DmaSem sig :=
  ((cc0_scratch5.slice (Rect.unit (s := S2) ![s.val] S1.size (sem2_inb s))).squeeze S_ squeezes_S1_S_).sem
abbrev ysSem (h : Fin 8) : DmaSem sig :=
  ((cc0_scratch6.slice (Rect.unit (s := S8) ![h.val] S1.size (sem8_inb h))).squeeze S_ squeezes_S1_S_).sem
abbrev yrSem (h : Fin 8) : DmaSem sig :=
  ((cc0_scratch7.slice (Rect.unit (s := S8) ![h.val] S1.size (sem8_inb h))).squeeze S_ squeezes_S1_S_).sem
abbrev xsSem : DmaSem sig :=
  ((cc0_scratch8.slice (Rect.unit (s := S1) ![0] S1.size inb_S1_S1_0)).squeeze S_ squeezes_S1_S_).sem
abbrev xrSem : DmaSem sig :=
  ((cc0_scratch9.slice (Rect.unit (s := S1) ![0] S1.size inb_S1_S1_0)).squeeze S_ squeezes_S1_S_).sem
abbrev barSem : Sem sig := (SemArray.scalar (sig.barrier 0 rfl) : Sems sig S_).sem

/-! ## The values -/

/-- The masked scores of one head. -/
def scores (q : Vec F S1x32x128 .f32) (k : Vec F S1x8192x128 .f32) (w : FVec F S32x8192 .f32) : FVec F S32x8192 .f32 :=
  select (cmpf .ogt w (broadcast S32x8192 (Scalar.ofBits .f32 0x00000000#32)))
    (mulf (matmul dot_S32x128_S8192x128_S32x8192_1_1_0_0_n_n none (shapeCast S32x128 q shapeCasts_S1x32x128_S32x128)
        (shapeCast S8192x128 k shapeCasts_S1x8192x128_S8192x128) (constant S32x8192 .f32 0x00000000#32))
      (broadcast S32x8192 (Scalar.ofBits .f32 0x3DB504F3#32)))
    (broadcast S32x8192 (Scalar.ofBits .f32 0xF149F2CA#32))
/-- Their maximum over the pages a device holds. -/
def peak (s : FVec F S32x8192 .f32) : FVec F S32x1 .f32 :=
  shapeCast S32x1 (multiReduction .maximumf [1] S32 s 0xFF800000#32 reduces_S32x8192_S32 (.inl rfl) rfl) shapeCasts_S32_S32x1
/-- The weighted exponentials. -/
def expo (s w : FVec F S32x8192 .f32) : FVec F S32x8192 .f32 :=
  mulf (exp (subf s (broadcastTo S32x8192 (peak s) broadcasts_S32x1_S32x8192))) w
/-- Their sum. -/
def total (e : FVec F S32x8192 .f32) : FVec F S32x1 .f32 :=
  shapeCast S32x1 (multiReduction .add [1] S32 e 0x00000000#32 reduces_S32x8192_S32 (.inl rfl) rfl) shapeCasts_S32_S32x1
/-- The unnormalised sum of the values. -/
def accum (e : FVec F S32x8192 .f32) (v : Vec F S1x8192x128 .f32) : FVec F S1x1x32x128 .f32 :=
  shapeCast S1x1x32x128 (matmul dot_S32x8192_S8192x128_S32x128_1_0_0_1_n_n none e
    (shapeCast S8192x128 v shapeCasts_S1x8192x128_S8192x128) (constant S32x128 .f32 0x00000000#32)) shapeCasts_S32x128_S1x1x32x128
/-- A column repeated along the lanes. -/
def spread (x : FVec F S32x1 .f32) : FVec F S1x1x32x128 .f32 :=
  shapeCast S1x1x32x128 (broadcastTo S32x128 (shapeCast S32x1 x shapeCasts_S32x1_S32x1) broadcasts_S32x1_S32x128) shapeCasts_S32x128_S1x1x32x128
/-- The merge of two partial results. -/
def merged (m₀ m₁ l₀ l₁ a₀ a₁ : Vec F S8x1x32x128 .f32) : FVec F S8x32x128 .f32 :=
  let m0 : FVec F S8x32x128 .f32 := shapeCast S8x32x128 m₀ shapeCasts_S8x1x32x128_S8x32x128
  let m1 : FVec F S8x32x128 .f32 := shapeCast S8x32x128 m₁ shapeCasts_S8x1x32x128_S8x32x128
  let mn := maximumf m0 m1
  let e0 := exp (subf m0 mn)
  let e1 := exp (subf m1 mn)
  divf
    (addf (mulf (shapeCast S8x32x128 a₀ shapeCasts_S8x1x32x128_S8x32x128) e0) (mulf (shapeCast S8x32x128 a₁ shapeCasts_S8x1x32x128_S8x32x128) e1))
    (addf (mulf (shapeCast S8x32x128 l₀ shapeCasts_S8x1x32x128_S8x32x128) e0) (mulf (shapeCast S8x32x128 l₁ shapeCasts_S8x1x32x128_S8x32x128) e1))

/-! ## The program -/

abbrev P (F : FTy → Type) (α : Type) : Type 1 := Prog (TpuEff nD τ sig (Elt F) Λ₀ .tc) α

/-- Start the copies of one head's keys and values into its slot. -/
def issue (d : Dev nD) (h : Fin 8) : P F PUnit := do
  Prog.lift (.enqueueDma (kHead d h) (.here (kSlot (slotOf h))) (.dma (kSem (slotOf h))) ((View.wordExact_bits rfl).reshape _ _) ((View.wordExact_bits rfl).reshape _ _) ⟨Or.inl rfl, trivial⟩)
  Prog.lift (.enqueueDma (vHead d h) (.here (vSlot (slotOf h))) (.dma (vSem (slotOf h))) ((View.wordExact_bits rfl).reshape _ _) ((View.wordExact_bits rfl).reshape _ _) ⟨Or.inl rfl, trivial⟩)

/-- One head's partial result, from the landing of its keys to the send. -/
def compute (d : Dev nD) (w : FVec F S32x8192 .f32) (h : Fin 8) : P F PUnit := do
  Prog.lift (.waitDma2 (kSem (slotOf h)) (kHead d h) (kSlot (slotOf h)) ((View.wordExact_bits rfl).reshape _ _) ((View.wordExact_bits rfl).reshape _ _))
  Prog.lift (.waitDma2 (vSem (slotOf h)) (vHead d h) (vSlot (slotOf h)) ((View.wordExact_bits rfl).reshape _ _) ((View.wordExact_bits rfl).reshape _ _))
  let q : Vec F S1x32x128 .f32 ← Prog.lift (.load qM (Rect.unit (s := S8x32x128) ![h.val, 0, 0] S1x32x128.size (head_inb h)).toLoadRect (View.loadsAt_vmem h_S1x32x128))
  let k : Vec F S1x8192x128 .f32 ← Prog.lift (.load kB (Rect.unit (s := S2x8192x128) ![(slotOf h).val, 0, 0] S1x8192x128.size (slot_inb (slotOf h))).toLoadRect (View.loadsAt_vmem h_S1x8192x128))
  let v : Vec F S1x8192x128 .f32 ← Prog.lift (.load vB (Rect.unit (s := S2x8192x128) ![(slotOf h).val, 0, 0] S1x8192x128.size (slot_inb (slotOf h))).toLoadRect (View.loadsAt_vmem h_S1x8192x128))
  let _ : Vec F S1x1x32x128 .f32 ← Prog.lift (.load pB (Rect.unit (s := S8x3x32x128) ![h.val, (0 : Fin 3).val, 0, 0] S1x1x32x128.size (part_inb h 0)).toLoadRect (View.loadsAt_vmem h_S1x1x32x128))
  Prog.lift (.store pB (Rect.unit (s := S8x3x32x128) ![h.val, (0 : Fin 3).val, 0, 0] S1x1x32x128.size (part_inb h 0)) (accum (expo (scores q k w) w) v) Finset.univ (View.stores_vmem_bits_univ h_S1x1x32x128 rfl) (.inl rfl))
  let _ : Vec F S1x1x32x128 .f32 ← Prog.lift (.load pB (Rect.unit (s := S8x3x32x128) ![h.val, (1 : Fin 3).val, 0, 0] S1x1x32x128.size (part_inb h 1)).toLoadRect (View.loadsAt_vmem h_S1x1x32x128))
  Prog.lift (.store pB (Rect.unit (s := S8x3x32x128) ![h.val, (1 : Fin 3).val, 0, 0] S1x1x32x128.size (part_inb h 1)) (spread (peak (scores q k w))) Finset.univ (View.stores_vmem_bits_univ h_S1x1x32x128 rfl) (.inl rfl))
  let _ : Vec F S1x1x32x128 .f32 ← Prog.lift (.load pB (Rect.unit (s := S8x3x32x128) ![h.val, (2 : Fin 3).val, 0, 0] S1x1x32x128.size (part_inb h 2)).toLoadRect (View.loadsAt_vmem h_S1x1x32x128))
  Prog.lift (.store pB (Rect.unit (s := S8x3x32x128) ![h.val, (2 : Fin 3).val, 0, 0] S1x1x32x128.size (part_inb h 2)) (spread (total (expo (scores q k w) w))) Finset.univ (View.stores_vmem_bits_univ h_S1x1x32x128 rfl) (.inl rfl))
  Prog.lift (.enqueueDma (pHead h) (.remote (Dev.tc (⟨k0_dev3 d, k0_dev3_lt d⟩ : Dev nD)) (cHead h) (.dma (ysSem h))) (.dma (yrSem h)) ((View.wordExact_bits rfl).reshape _ _) ((View.wordExact_bits rfl).reshape _ _) ⟨⟨rfl, Or.inl rfl⟩, trivial⟩)

/-- The two waits of one head's send: its own partial result is free again, the peer's has landed. -/
def settle (h : Fin 8) : P F PUnit := do
  Prog.lift (.waitDma2 (ysSem h) (cHead h) (pHead h) ((View.wordExact_bits rfl).reshape _ _) ((View.wordExact_bits rfl).reshape _ _))
  Prog.lift (.waitDma2 (yrSem h) (pHead h) (cHead h) ((View.wordExact_bits rfl).reshape _ _) ((View.wordExact_bits rfl).reshape _ _))

/-- The load of one of the three parts of all heads. -/
abbrev partAll (b : Memref sig .tc .vmem S8x3x32x128 .f32) (j : Fin 3)
    (hj : ∀ a, (![0, j.val, 0, 0] : Fin 4 → ℕ) a + S8x1x32x128.size a ≤ S8x3x32x128.size a) : P F (Vec F S8x1x32x128 .f32) :=
  Prog.lift (.load b (Rect.unit (s := S8x3x32x128) ![0, j.val, 0, 0] S8x1x32x128.size hj).toLoadRect (View.loadsAt_vmem h_S8x1x32x128))

theorem all_inb (j : Fin 3) : ∀ a, (![0, j.val, 0, 0] : Fin 4 → ℕ) a + S8x1x32x128.size a ≤ S8x3x32x128.size a := by
  revert j; decide

/-- Merge the two partial results, and trade the merged half with the peer along `x`. -/
def merge (d : Dev nD) : P F PUnit := do
  let m₀ : Vec F S8x1x32x128 .f32 ← partAll pB 1 (all_inb 1)
  let m₁ : Vec F S8x1x32x128 .f32 ← partAll cB 1 (all_inb 1)
  let l₀ : Vec F S8x1x32x128 .f32 ← partAll pB 2 (all_inb 2)
  let l₁ : Vec F S8x1x32x128 .f32 ← partAll cB 2 (all_inb 2)
  let a₀ : Vec F S8x1x32x128 .f32 ← partAll pB 0 (all_inb 0)
  let a₁ : Vec F S8x1x32x128 .f32 ← partAll cB 0 (all_inb 0)
  let _ : Vec F S8x32x128 .f32 ← Prog.lift (.load oM (Rect.unit (s := S16x32x128) (k0_off2 d) S8x32x128.size (k0_off2_inb d)).toLoadRect (View.loadsAt_vmem h_S8x32x128))
  Prog.lift (.store oM (Rect.unit (s := S16x32x128) (k0_off2 d) S8x32x128.size (k0_off2_inb d)) (merged m₀ m₁ l₀ l₁ a₀ a₁) Finset.univ (View.stores_vmem_bits_univ h_S8x32x128 rfl) (.inl rfl))
  Prog.lift (.enqueueDma (oHalf d) (.remote (Dev.tc (⟨k0_dev11 d, k0_dev11_lt d⟩ : Dev nD)) (oHalf d) (.dma xsSem)) (.dma xrSem) (View.wordExact_bits rfl) (View.wordExact_bits rfl) ⟨⟨rfl, Or.inl rfl⟩, trivial⟩)
  Prog.lift (.waitDma2 xsSem (oHalf d) (oHalf d) (View.wordExact_bits rfl) (View.wordExact_bits rfl))
  Prog.lift (.waitDma2 xrSem (oHalf d) (oHalf d) (View.wordExact_bits rfl) (View.wordExact_bits rfl))

/-- Tell both peers that this device has entered, and wait for both. -/
def enter (d : Dev nD) : P F PUnit := do
  semSignalWord (⟨k0_dev1 d, k0_dev1_lt d⟩ : Dev nD) barSem 1#32
  semSignalWord (⟨k0_dev2 d, k0_dev2_lt d⟩ : Dev nD) barSem 1#32
  semWaitWord barSem 2#32

/-- The weights, whole. -/
def weights : P F (FVec F S32x8192 .f32) := do
  let w : Vec F S32x8192 .f32 ← Prog.lift (.load wM (Rect.unit (s := S32x8192) ![0, 0] S32x8192.size inb_S32x8192_S32x8192_0_0).toLoadRect (View.loadsAt_vmem h_S32x8192))
  pure (shapeCast S32x8192 w shapeCasts_S32x8192_S32x8192)

/-- The eight heads, each one's copies started while the one before is worked on. -/
def heads (d : Dev nD) (w : FVec F S32x8192 .f32) : P F PUnit := do
  issue d 0
  issue d 1; compute d w 0
  issue d 2; compute d w 1
  issue d 3; compute d w 2
  issue d 4; compute d w 3
  issue d 5; compute d w 4
  issue d 6; compute d w 5
  issue d 7; compute d w 6
  compute d w 7

/-- The eight sends' waits. -/
def settles : P F PUnit := do
  settle 0; settle 1; settle 2; settle 3; settle 4; settle 5; settle 6; settle 7

/-- The body. -/
def prog : P F PUnit := do
  let d : Dev nD ← Prog.lift .deviceId
  enter d
  let w ← weights
  heads d w
  settles
  merge d

end Cert.KernelIdeal.Paged

end
-- ==== Proof.Geo.lean ====
/-
  The pieces of the kernel's buffers, by coordinates: which elements each slot, head and half holds,
  and what element of its buffer each index of a piece names.
-/
module

public import proofs.«01_k».proof.Proof.Prog
public import Idealize.ShloMosaic.Lib.Rounds
public import Idealize.ShloMosaic.Lib.Ring
public import Idealize.ShloMosaic.Lib.ViewIndex
public import Idealize.ShloMosaic.Lib.ValueLayout

@[expose] public section

noncomputable section

namespace Cert.KernelIdeal.Paged

open Idealize.ShloMosaic Idealize.SL.Sem Cert.KernelIdeal Cert.KernelIdeal.Facts₀ Cert.KernelIdeal.Facts
open Idealize.ShloMosaic.ValueIdx

variable {F : FTy → Type} [FloatOps F]

/-! ## The mesh -/

/-- The device with the same `x` and the other `y`. -/
def yp (c : Dev nD) : Dev nD := ⟨2 * (c.val / 2) + (c.val % 2 + 1) % 2, by revert c; decide⟩
/-- The device with the same `y` and the other `x`. -/
def xp (c : Dev nD) : Dev nD := ⟨(c.val + 2) % 4, by revert c; decide⟩
/-- The device at row `x` of the column of `c`. -/
def inCol (c : Dev nD) (x : Fin 2) : Dev nD := ⟨2 * x.val + c.val % 2, by revert c x; decide⟩
/-- The row of a device. -/
def rowOf (c : Dev nD) : Fin 2 := ⟨c.val / 2, by revert c; decide⟩

theorem yp_yp (c : Dev nD) : yp (yp c) = c := by revert c; decide
theorem xp_xp (c : Dev nD) : xp (xp c) = c := by revert c; decide
theorem yp_row (c : Dev nD) : (yp c).val / 2 = c.val / 2 := by revert c; decide
theorem xp_row (c : Dev nD) : (xp c).val / 2 = 1 - c.val / 2 := by revert c; decide
theorem inCol_xp (c : Dev nD) (x : Fin 2) : inCol (xp c) x = inCol c x := by revert c x; decide
theorem inCol_own (c : Dev nD) : inCol c (rowOf c) = c := by revert c; decide
theorem row_lt (c : Dev nD) : c.val / 2 < 2 := by revert c; decide

def ypEquiv : Dev nD ≃ Dev nD := ⟨yp, yp, yp_yp, yp_yp⟩
def xpEquiv : Dev nD ≃ Dev nD := ⟨xp, xp, xp_xp, xp_xp⟩

theorem dev1 (c : Dev nD) : (⟨k0_dev1 c, k0_dev1_lt c⟩ : Dev nD) = yp c :=
  Fin.ext ((Gen.k0_dev1_eq c).trans (by revert c; decide))
theorem dev3 (c : Dev nD) : (⟨k0_dev3 c, k0_dev3_lt c⟩ : Dev nD) = yp c :=
  Fin.ext ((Gen.k0_dev3_eq c).trans (by revert c; decide))
theorem dev2 (c : Dev nD) : (⟨k0_dev2 c, k0_dev2_lt c⟩ : Dev nD) = xp c :=
  Fin.ext ((Gen.k0_dev2_eq c).trans (by revert c; decide))
theorem dev11 (c : Dev nD) : (⟨k0_dev11 c, k0_dev11_lt c⟩ : Dev nD) = xp c :=
  Fin.ext ((Gen.k0_dev11_eq c).trans (by revert c; decide))

/-- The head of the whole array that a device's head `h` is. -/
def headOf (c : Dev nD) (h : Fin 8) : Fin 16 := ⟨8 * (c.val / 2) + h.val, by have := row_lt c; omega⟩

/-! ## Elements -/

abbrev slotRect (s : Fin 2) : Rect S2x8192x128 := Rect.unit (s := S2x8192x128) ![s.val, 0, 0] S1x8192x128.size (slot_inb s)
abbrev ownRect (d : Dev nD) (h : Fin 8) : Rect S8192x16x128 :=
  Rect.unit (s := S8192x16x128) (k0_off1 d (BitVec.ofNat 32 h.val)) S8192x1x128.size (k0_off1_inb d h)
abbrev packRect (h : Fin 8) : Rect S8x3x32x128 := Rect.unit (s := S8x3x32x128) ![h.val, 0, 0, 0] S1x3x32x128.size (pack_inb h)
/-- The rectangle of one part of one head's partial result. -/
abbrev partRect (h : Fin 8) (j : Fin 3) : Rect S8x3x32x128 :=
  Rect.unit (s := S8x3x32x128) ![h.val, j.val, 0, 0] S1x1x32x128.size (part_inb h j)
abbrev halfRect (d : Dev nD) : Rect S16x32x128 := Rect.unit (s := S16x32x128) (k0_off3 d) S8x32x128.size (k0_off3_inb d)
abbrev mergeRect (d : Dev nD) : Rect S16x32x128 := Rect.unit (s := S16x32x128) (k0_off2 d) S8x32x128.size (k0_off2_inb d)

theorem kSlot_set (s : Fin 2) : ((kSlot s).view.set : Finset S2x8192x128.Idx) = (slotRect s).set :=
  (View.set_reshape ((View.whole cc0_scratch0).slice (slotRect s)) _).trans (View.set_slice_whole cc0_scratch0 (slotRect s))
theorem vSlot_set (s : Fin 2) : ((vSlot s).view.set : Finset S2x8192x128.Idx) = (slotRect s).set :=
  (View.set_reshape ((View.whole cc0_scratch1).slice (slotRect s)) _).trans (View.set_slice_whole cc0_scratch1 (slotRect s))
theorem kHead_set (d : Dev nD) (h : Fin 8) : ((kHead d h).view.set : Finset S8192x16x128.Idx) = (ownRect d h).set :=
  (View.set_reshape ((View.whole main_v39).slice (ownRect d h)) _).trans (View.set_slice_whole main_v39 (ownRect d h))
theorem vHead_set (d : Dev nD) (h : Fin 8) : ((vHead d h).view.set : Finset S8192x16x128.Idx) = (ownRect d h).set :=
  (View.set_reshape ((View.whole main_v40).slice (ownRect d h)) _).trans (View.set_slice_whole main_v40 (ownRect d h))
theorem pHead_set (h : Fin 8) : ((pHead h).view.set : Finset S8x3x32x128.Idx) = (packRect h).set :=
  (View.set_reshape ((View.whole cc0_scratch2).slice (packRect h)) _).trans (View.set_slice_whole cc0_scratch2 (packRect h))
theorem cHead_set (h : Fin 8) : ((cHead h).view.set : Finset S8x3x32x128.Idx) = (packRect h).set :=
  (View.set_reshape ((View.whole cc0_scratch3).slice (packRect h)) _).trans (View.set_slice_whole cc0_scratch3 (packRect h))
theorem part_set (h : Fin 8) (j : Fin 3) : ((pB.access (partRect h j)).set : Finset S8x3x32x128.Idx) = (partRect h j).set :=
  View.set_slice_whole cc0_scratch2 (partRect h j)
theorem oHalf_set (d : Dev nD) : ((oHalf d).view.set : Finset S16x32x128.Idx) = (halfRect d).set :=
  View.set_slice_whole cc0_stg2_0 (halfRect d)

theorem mem_slotRect (s : Fin 2) (i : S2x8192x128.Idx) : i ∈ (slotRect s).set ↔ i 0 = s := by
  refine Rect.mem_set_unit.trans ⟨fun h => Fin.ext ?_, fun h a => ?_⟩
  · have h0 := h 0
    have e1 : (![s.val, 0, 0] : Fin 3 → ℕ) 0 = s.val := rfl
    have e2 : S1x8192x128.size 0 = 1 := rfl
    rw [e1, e2] at h0; omega
  · subst h
    match a with
    | ⟨0, _⟩ => exact ⟨le_refl (i 0).val, Nat.lt_succ_self _⟩
    | ⟨1, _⟩ => exact ⟨Nat.zero_le _, by show (i 1).val < 0 + 8192; have := (i 1).isLt; rw [Nat.zero_add]; exact this⟩
    | ⟨2, _⟩ => exact ⟨Nat.zero_le _, by show (i 2).val < 0 + 128; have := (i 2).isLt; rw [Nat.zero_add]; exact this⟩

theorem mem_kSlot (s : Fin 2) (i : S2x8192x128.Idx) : i ∈ ((kSlot s).view.set : Finset S2x8192x128.Idx) ↔ i 0 = s := by
  rw [kSlot_set]; exact mem_slotRect s i
theorem mem_vSlot (s : Fin 2) (i : S2x8192x128.Idx) : i ∈ ((vSlot s).view.set : Finset S2x8192x128.Idx) ↔ i 0 = s := by
  rw [vSlot_set]; exact mem_slotRect s i

theorem slotRect_set (s : Fin 2) : ((kB.access (slotRect s)).set : Finset S2x8192x128.Idx) = (kSlot s).view.set :=
  (View.set_slice_whole cc0_scratch0 (slotRect s)).trans (kSlot_set s).symm
theorem slotRect_set' (s : Fin 2) : ((vB.access (slotRect s)).set : Finset S2x8192x128.Idx) = (vSlot s).view.set :=
  (View.set_slice_whole cc0_scratch1 (slotRect s)).trans (vSlot_set s).symm

theorem mem_ownRect (d : Dev nD) (h : Fin 8) (i : S8192x16x128.Idx) : i ∈ (ownRect d h).set ↔ i 1 = headOf d h := by
  refine Rect.mem_set_unit.trans ?_
  rw [Gen.k0_off1_eq]
  refine ⟨fun hh => Fin.ext ?_, fun hh a => ?_⟩
  · have h1 := hh 1
    have e1 : (![0, 8 * (d.val / 2) + h.val, 0] : Fin 3 → ℕ) 1 = 8 * (d.val / 2) + h.val := rfl
    have e2 : S8192x1x128.size 1 = 1 := rfl
    rw [e1, e2] at h1
    show (i 1).val = 8 * (d.val / 2) + h.val
    omega
  · have e : (i 1).val = 8 * (d.val / 2) + h.val := congrArg Fin.val hh
    match a with
    | ⟨0, _⟩ => exact ⟨Nat.zero_le _, by show (i 0).val < 0 + 8192; have := (i 0).isLt; rw [Nat.zero_add]; exact this⟩
    | ⟨1, _⟩ => exact ⟨le_of_eq e.symm, by show (i 1).val < 8 * (d.val / 2) + h.val + 1; omega⟩
    | ⟨2, _⟩ => exact ⟨Nat.zero_le _, by show (i 2).val < 0 + 128; have := (i 2).isLt; rw [Nat.zero_add]; exact this⟩

theorem mem_kHead (d : Dev nD) (h : Fin 8) (i : S8192x16x128.Idx) : i ∈ ((kHead d h).view.set : Finset S8192x16x128.Idx) ↔ i 1 = headOf d h := by
  rw [kHead_set]; exact mem_ownRect d h i
theorem mem_vHead (d : Dev nD) (h : Fin 8) (i : S8192x16x128.Idx) : i ∈ ((vHead d h).view.set : Finset S8192x16x128.Idx) ↔ i 1 = headOf d h := by
  rw [vHead_set]; exact mem_ownRect d h i

theorem mem_packRect (h : Fin 8) (i : S8x3x32x128.Idx) : i ∈ (packRect h).set ↔ i 0 = h := by
  refine Rect.mem_set_unit.trans ⟨fun hh => Fin.ext ?_, fun hh a => ?_⟩
  · have h0 := hh 0
    have e1 : (![h.val, 0, 0, 0] : Fin 4 → ℕ) 0 = h.val := rfl
    have e2 : S1x3x32x128.size 0 = 1 := rfl
    rw [e1, e2] at h0; omega
  · subst hh
    match a with
    | ⟨0, _⟩ => exact ⟨le_refl (i 0).val, Nat.lt_succ_self _⟩
    | ⟨1, _⟩ => exact ⟨Nat.zero_le _, by show (i 1).val < 0 + 3; have := (i 1).isLt; rw [Nat.zero_add]; exact this⟩
    | ⟨2, _⟩ => exact ⟨Nat.zero_le _, by show (i 2).val < 0 + 32; have := (i 2).isLt; rw [Nat.zero_add]; exact this⟩
    | ⟨3, _⟩ => exact ⟨Nat.zero_le _, by show (i 3).val < 0 + 128; have := (i 3).isLt; rw [Nat.zero_add]; exact this⟩

theorem mem_pHead (h : Fin 8) (i : S8x3x32x128.Idx) : i ∈ ((pHead h).view.set : Finset S8x3x32x128.Idx) ↔ i 0 = h := by
  rw [pHead_set]; exact mem_packRect h i
theorem mem_cHead (h : Fin 8) (i : S8x3x32x128.Idx) : i ∈ ((cHead h).view.set : Finset S8x3x32x128.Idx) ↔ i 0 = h := by
  rw [cHead_set]; exact mem_packRect h i

theorem mem_part (h : Fin 8) (j : Fin 3) (i : S8x3x32x128.Idx) :
    i ∈ ((pB.access (partRect h j)).set : Finset S8x3x32x128.Idx) ↔ i 0 = h ∧ i 1 = j := by
  rw [part_set]
  refine Rect.mem_set_unit.trans ⟨fun hh => ⟨Fin.ext ?_, Fin.ext ?_⟩, fun hh a => ?_⟩
  · have h0 := hh 0
    have e1 : (![h.val, j.val, 0, 0] : Fin 4 → ℕ) 0 = h.val := rfl
    have e2 : S1x1x32x128.size 0 = 1 := rfl
    rw [e1, e2] at h0; omega
  · have h0 := hh 1
    have e1 : (![h.val, j.val, 0, 0] : Fin 4 → ℕ) 1 = j.val := rfl
    have e2 : S1x1x32x128.size 1 = 1 := rfl
    rw [e1, e2] at h0; omega
  · obtain ⟨rfl, rfl⟩ := hh
    match a with
    | ⟨0, _⟩ => exact ⟨le_refl (i 0).val, Nat.lt_succ_self _⟩
    | ⟨1, _⟩ => exact ⟨le_refl (i 1).val, Nat.lt_succ_self _⟩
    | ⟨2, _⟩ => exact ⟨Nat.zero_le _, by show (i 2).val < 0 + 32; have := (i 2).isLt; rw [Nat.zero_add]; exact this⟩
    | ⟨3, _⟩ => exact ⟨Nat.zero_le _, by show (i 3).val < 0 + 128; have := (i 3).isLt; rw [Nat.zero_add]; exact this⟩

theorem part_sub (h : Fin 8) (j : Fin 3) : ((pB.access (partRect h j)).set : Finset S8x3x32x128.Idx) ⊆ (pHead h).view.set := fun i hi =>
  (mem_pHead h i).mpr ((mem_part h j i).mp hi).1

theorem mem_oHalf (d : Dev nD) (i : S16x32x128.Idx) : i ∈ ((oHalf d).view.set : Finset S16x32x128.Idx) ↔ (i 0).val / 8 = d.val / 2 := by
  rw [oHalf_set]
  refine Rect.mem_set_unit.trans ?_
  rw [Gen.k0_off3_eq]
  refine ⟨fun h => ?_, fun h a => ?_⟩
  · have h1 := h 0
    have e1 : (![8 * (d.val / 2), 0, 0] : Fin 3 → ℕ) 0 = 8 * (d.val / 2) := rfl
    have e2 : S8x32x128.size 0 = 8 := rfl
    rw [e1, e2] at h1; omega
  · match a with
    | ⟨0, _⟩ =>
      refine ⟨?_, ?_⟩
      · show 8 * (d.val / 2) ≤ (i 0).val; omega
      · show (i 0).val < 8 * (d.val / 2) + 8; omega
    | ⟨1, _⟩ => exact ⟨Nat.zero_le _, by show (i 1).val < 0 + 32; have := (i 1).isLt; rw [Nat.zero_add]; exact this⟩
    | ⟨2, _⟩ => exact ⟨Nat.zero_le _, by show (i 2).val < 0 + 128; have := (i 2).isLt; rw [Nat.zero_add]; exact this⟩

theorem off2_off3 (d : Dev nD) : k0_off2 d = k0_off3 d := (Gen.k0_off2_eq d).trans (Gen.k0_off3_eq d).symm

theorem oRect_set (d : Dev nD) : ((oM.access (mergeRect d)).set : Finset S16x32x128.Idx) = (oHalf d).view.set := by
  rw [oHalf_set]
  refine (View.set_slice_whole cc0_stg2_0 (mergeRect d)).trans (Finset.ext fun i => ?_)
  rw [Rect.mem_set_unit, Rect.mem_set_unit, off2_off3]
  exact Iff.rfl

/-! ## What an index of a piece names -/

theorem reshape_mid (h : S8192x128.numel = S8192x1x128.numel) (x : Fin 8192) (y : Fin 128) :
    Shape.reshapeEquiv (s := S8192x1x128) (s' := S8192x128) h (ix2 x y) = ix3 x (⟨0, Nat.one_pos⟩ : Fin 1) y :=
  Shape.reshapeEquiv_eq_of_rowMajor h (by
    rw [Shape.rowMajor_val_three, Shape.rowMajor_val_two]
    show ((x.val * 1 + 0) * 128 + y.val) = x.val * 128 + y.val
    simp only [Nat.mul_one, Nat.add_zero])

theorem emb_kSlot (s : Fin 2) (x : Fin 8192) (y : Fin 128) : (kSlot s).view.emb (ix2 x y) = ix3 s x y := by
  show (slotRect s).emb (Shape.reshapeEquiv (s := S1x8192x128) (s' := S8192x128) _ (ix2 x y)) = _
  rw [reshapeEquiv_ix2_1ab]
  exact Shape.idx3_ext (by show s.val + 1 * 0 = s.val; omega) (by show 0 + 1 * x.val = x.val; omega) (by show 0 + 1 * y.val = y.val; omega)
theorem emb_vSlot (s : Fin 2) (x : Fin 8192) (y : Fin 128) : (vSlot s).view.emb (ix2 x y) = ix3 s x y := by
  exact emb_kSlot s x y
theorem emb_kHead (d : Dev nD) (h : Fin 8) (x : Fin 8192) (y : Fin 128) : (kHead d h).view.emb (ix2 x y) = ix3 x (headOf d h) y := by
  show (ownRect d h).emb (Shape.reshapeEquiv (s := S8192x1x128) (s' := S8192x128) _ (ix2 x y)) = _
  rw [reshape_mid]
  have e := Gen.k0_off1_eq d h
  refine Shape.idx3_ext ?_ ?_ ?_
  · show k0_off1 d (BitVec.ofNat 32 h.val) 0 + 1 * x.val = x.val
    rw [e]; show 0 + 1 * x.val = x.val; omega
  · show k0_off1 d (BitVec.ofNat 32 h.val) 1 + 1 * 0 = (headOf d h).val
    rw [e]; rfl
  · show k0_off1 d (BitVec.ofNat 32 h.val) 2 + 1 * y.val = y.val
    rw [e]; show 0 + 1 * y.val = y.val; omega
theorem emb_vHead (d : Dev nD) (h : Fin 8) (x : Fin 8192) (y : Fin 128) : (vHead d h).view.emb (ix2 x y) = ix3 x (headOf d h) y :=
  emb_kHead d h x y

theorem emb_part (h : Fin 8) (j : Fin 3) (x : Fin 32) (y : Fin 128) :
    (pB.access (partRect h j)).emb (ix4 (⟨0, Nat.one_pos⟩ : Fin 1) (⟨0, Nat.one_pos⟩ : Fin 1) x y) = ix4 h j x y := by
  show (partRect h j).emb _ = _
  funext a
  match a with
  | ⟨0, _⟩ => exact Fin.ext (by show h.val + 1 * 0 = h.val; omega)
  | ⟨1, _⟩ => exact Fin.ext (by show j.val + 1 * 0 = j.val; omega)
  | ⟨2, _⟩ => exact Fin.ext (by show 0 + 1 * x.val = x.val; omega)
  | ⟨3, _⟩ => exact Fin.ext (by show 0 + 1 * y.val = y.val; omega)

end Cert.KernelIdeal.Paged

end
-- ==== Proof.Sched.lean ====
/-
  The schedule of the kernel's semaphores, and what every landing hands over.

  Device `c` sits at row `c / 2` and column `c % 2` of the mesh; `yp c` and `xp c` are its peers.

    barrier   two units, one from each peer. The peer along `y` hands over the eight slots of its
              landing buffer, and that round 0 of its eight receive semaphores is reached; the peer
              along `x` hands over the half of ITS output that this device will write, likewise.
    key and value semaphores, one per slot: round `r` is the copy of head `2 r + s`; it hands back
              the source, and the slot at that head's keys (values).
    send semaphores along `y`, one per head: hand back the own partial result.
    receive semaphores along `y`, one per head: the landing slot at the peer's partial result.
    send and receive along `x`: the own merged half back; the other half, merged by the peer.

  The contents are functions of what the four devices held when the kernel was entered.
-/
module

public import proofs.«01_k».proof.Proof.Geo
public import Idealize.ShloMosaic.Lib.Pipeline.Regions
public import Idealize.ShloMosaic.Lib.Pipeline.Kit
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

inductive Tag where
  | bar
  | ks (s : Fin 2)
  | vs (s : Fin 2)
  | ys (h : Fin 8)
  | yr (h : Fin 8)
  | xs
  | xr
  | off
  deriving DecidableEq

/-- What a semaphore is for. -/
def tagOf : SemLoc sig → Tag
  | .reg _ => .bar
  | .dma i =>
    if i.val < 3 then .off
    else if i.val < 5 then .ks ⟨(i.val - 3) % 2, Nat.mod_lt _ (by decide)⟩
    else if i.val < 7 then .vs ⟨(i.val - 5) % 2, Nat.mod_lt _ (by decide)⟩
    else if i.val < 15 then .ys ⟨(i.val - 7) % 8, Nat.mod_lt _ (by decide)⟩
    else if i.val < 23 then .yr ⟨(i.val - 15) % 8, Nat.mod_lt _ (by decide)⟩
    else if i.val < 24 then .xs
    else .xr

theorem tag_k (s : Fin 2) : tagOf (.dma (kSem s)) = .ks s := by revert s; decide
theorem tag_v (s : Fin 2) : tagOf (.dma (vSem s)) = .vs s := by revert s; decide
theorem tag_ys (h : Fin 8) : tagOf (.dma (ysSem h)) = .ys h := by revert h; decide
theorem tag_yr (h : Fin 8) : tagOf (.dma (yrSem h)) = .yr h := by revert h; decide
theorem tag_xs : tagOf (.dma xsSem) = .xs := by decide
theorem tag_xr : tagOf (.dma xrSem) = .xr := by decide

abbrev barC (c : Dev nD) : GSem nD τ sig := ((c : Thread nD τ), .reg barSem)
abbrev kC (c : Dev nD) (s : Fin 2) : GSem nD τ sig := ((c : Thread nD τ), .dma (kSem s))
abbrev vC (c : Dev nD) (s : Fin 2) : GSem nD τ sig := ((c : Thread nD τ), .dma (vSem s))
abbrev ysC (c : Dev nD) (h : Fin 8) : GSem nD τ sig := ((c : Thread nD τ), .dma (ysSem h))
abbrev yrC (c : Dev nD) (h : Fin 8) : GSem nD τ sig := ((c : Thread nD τ), .dma (yrSem h))
abbrev xsC (c : Dev nD) : GSem nD τ sig := ((c : Thread nD τ), .dma xsSem)
abbrev xrC (c : Dev nD) : GSem nD τ sig := ((c : Thread nD τ), .dma xrSem)

/-! ## Contents -/

section Contents

variable (W : Dev nD → Valuation τ sig (Elt F))

/-- What the four inputs of the kernel hold on device `c`. -/
def qv (c : Dev nD) : Vec F S8x32x128 .f32 := W c main_v38
def wv (c : Dev nD) : Vec F S32x8192 .f32 := W c main_v31
def kv (c : Dev nD) : Vec F S8192x16x128 .f32 := W c main_v39
def vv (c : Dev nD) : Vec F S8192x16x128 .f32 := W c main_v40

/-- A slot at the keys (the values) of one head, read as the whole slot buffer. -/
def kf (c : Dev nD) (h : Fin 8) : Vec F S2x8192x128 .f32 := fun i => kv W c (ix3 (n0 := 8192) (n1 := 16) (n2 := 128) (i 1) (headOf c h) (i 2))
def vf (c : Dev nD) (h : Fin 8) : Vec F S2x8192x128 .f32 := fun i => vv W c (ix3 (n0 := 8192) (n1 := 16) (n2 := 128) (i 1) (headOf c h) (i 2))

/-- The weights as loaded. -/
def wl (c : Dev nD) : FVec F S32x8192 .f32 :=
  shapeCast S32x8192 ((wM.access (Rect.unit (s := S32x8192) ![0, 0] S32x8192.size inb_S32x8192_S32x8192_0_0)).read (Elt F) (wv W c)) shapeCasts_S32x8192_S32x8192
/-- One head's query, keys and values as loaded. -/
def ql (c : Dev nD) (h : Fin 8) : Vec F S1x32x128 .f32 :=
  (qM.access (Rect.unit (s := S8x32x128) ![h.val, 0, 0] S1x32x128.size (head_inb h))).read (Elt F) (qv W c)
def kl (c : Dev nD) (h : Fin 8) : Vec F S1x8192x128 .f32 := (kB.access (slotRect (slotOf h))).read (Elt F) (kf W c h)
def vl (c : Dev nD) (h : Fin 8) : Vec F S1x8192x128 .f32 := (vB.access (slotRect (slotOf h))).read (Elt F) (vf W c h)

/-- The three parts of one head's partial result. -/
def part (c : Dev nD) (h : Fin 8) : Fin 3 → FVec F S1x1x32x128 .f32
  | 0 => accum (expo (scores (ql W c h) (kl W c h) (wl W c)) (wl W c)) (vl W c h)
  | 1 => spread (peak (scores (ql W c h) (kl W c h) (wl W c)))
  | 2 => spread (total (expo (scores (ql W c h) (kl W c h) (wl W c)) (wl W c)))

/-- A device's partial results, the whole buffer. -/
def pk (c : Dev nD) : Vec F S8x3x32x128 .f32 := fun i =>
  part W c (i 0) (i 1) (ix4 (⟨0, Nat.one_pos⟩ : Fin 1) (⟨0, Nat.one_pos⟩ : Fin 1) (n2 := 32) (n3 := 128) (i 2) (i 3))

abbrev allRect (j : Fin 3) : Rect S8x3x32x128 := Rect.unit (s := S8x3x32x128) ![0, j.val, 0, 0] S8x1x32x128.size (all_inb j)

/-- One part of all heads, as loaded from the own buffer and from the landing buffer. -/
def pl (f : Vec F S8x3x32x128 .f32) (j : Fin 3) : Vec F S8x1x32x128 .f32 := (pB.access (allRect j)).read (Elt F) f
def cl (f : Vec F S8x3x32x128 .f32) (j : Fin 3) : Vec F S8x1x32x128 .f32 := (cB.access (allRect j)).read (Elt F) f

/-- The half a device merges. -/
def half (c : Dev nD) : FVec F S8x32x128 .f32 :=
  merged (pl (pk W c) 1) (cl (pk W (yp c)) 1) (pl (pk W c) 2) (cl (pk W (yp c)) 2) (pl (pk W c) 0) (cl (pk W (yp c)) 0)

/-- A device's output, the whole buffer: each half merged by the device of its column that merges it. -/
def outv (c : Dev nD) : Vec F S16x32x128 .f32 := fun i =>
  half W (inCol c ⟨(i 0).val / 8, by have : (i 0).val < 16 := (i 0).isLt; omega⟩)
    (ix3 (⟨(i 0).val % 8, Nat.mod_lt _ (by decide)⟩ : Fin 8) (n1 := 32) (n2 := 128) (i 1) (i 2))

theorem outv_xp (c : Dev nD) : outv W (xp c) = outv W c := by
  funext i; unfold outv; rw [inCol_xp]

end Contents

/-! ## Points-tos -/

/-- Device `c` holds the elements of memref `v` at `f`, wholly. -/
abbrev pts (c : Dev nD) {sp : Space} {s : Shape} {e : EltTy} (v : Memref sig .tc sp s e) (f : Buf (Elt F) (v.view.loc (c : Thread nD τ))) : sProp 𝕄 :=
  v.view.loc (c : Thread nD τ) ↦[v.view.set]{fullShare} f
/-- The same at some contents. -/
abbrev ptsAny (F : FTy → Type) (c : Dev nD) {sp : Space} {s : Shape} {e : EltTy} (v : Memref sig .tc sp s e) : sProp (MT nD τ sig Unit (Elt F) ℕ UU ℕ) :=
  iprop(∃ f : Buf (Elt F) (v.view.loc (c : Thread nD τ)), v.view.loc (c : Thread nD τ) ↦[v.view.set]{fullShare} f)

theorem pts_storable (c : Dev nD) {sp : Space} {s : Shape} {e : EltTy} (v : Memref sig .tc sp s e) (f : Buf (Elt F) (v.view.loc (c : Thread nD τ))) :
    BI.Storable (upEmb : UEmb _ 𝕄) (pts c v f) := inferInstance
theorem ptsAny_storable (c : Dev nD) {sp : Space} {s : Shape} {e : EltTy} (v : Memref sig .tc sp s e) :
    BI.Storable (upEmb : UEmb _ 𝕄) (ptsAny F c v) := inferInstance

/-! ## The schedule -/

/-- The head whose copy is round `r` of slot `s`. -/
def headAt (s : Fin 2) (r : ℕ) : Fin 8 := ⟨(2 * r + s.val) % 8, Nat.mod_lt _ (by decide)⟩

theorem headAt_slot (h : Fin 8) : headAt (slotOf h) (h.val / 2) = h := by revert h; decide

variable (W : Dev nD → Valuation τ sig (Elt F))

/-- What the peer along `y` hands over with its barrier unit. -/
def barY (F : FTy → Type) [FloatOps F] (c : Dev nD) : sProp (MT nD τ sig Unit (Elt F) ℕ UU ℕ) :=
  iprop((bigSep Finset.univ fun h : Fin 8 => ptsAny F (yp c) (cHead h)) ∗ bigSep Finset.univ fun h : Fin 8 => reached ER (yrC (yp c) h) 0)

instance barY_storable (c : Dev nD) : BI.Storable (upEmb : UEmb _ 𝕄) (barY F c) := by
  have h1 (h : Fin 8) : BI.Storable (upEmb : UEmb _ 𝕄) (ptsAny F (yp c) (cHead h)) := ptsAny_storable _ _
  have h2 (h : Fin 8) : BI.Storable (upEmb : UEmb _ 𝕄) (reached ER (yrC (yp c) h) 0) := inferInstance
  unfold barY
  infer_instance

def payT (c : Dev nD) : Tag → ℕ → Bool → sProp 𝕄
  | .bar, _, true => barY F c
  | .bar, _, false => iprop(ptsAny F (xp c) (oHalf c) ∗ reached ER (xrC (xp c)) 0)
  | .ks s, r, _ => iprop(pts c (kSlot s) (kf W c (headAt s r)) ∗ pts c (kHead c (headAt s r)) (kv W c))
  | .vs s, r, _ => iprop(pts c (vSlot s) (vf W c (headAt s r)) ∗ pts c (vHead c (headAt s r)) (vv W c))
  | .ys h, _, _ => pts c (pHead h) (pk W c)
  | .yr h, _, _ => pts c (cHead h) (pk W (yp c))
  | .xs, _, _ => pts c (oHalf c) (outv W c)
  | .xr, _, _ => pts c (oHalf (xp c)) (outv W c)
  | .off, _, _ => iprop(emp)

def dutT : Tag → ℕ → Finset Bool
  | .bar, r => if r = 0 then {true, false} else ∅
  | .ks _, r => if r < 4 then {true} else ∅
  | .vs _, r => if r < 4 then {true} else ∅
  | .off, _ => ∅
  | _, r => if r = 0 then {true} else ∅

abbrev NK (s : Fin 2) : ℕ := (kSlot s).view.dmaCredit
abbrev NV (s : Fin 2) : ℕ := (vSlot s).view.dmaCredit
abbrev NY (h : Fin 8) : ℕ := (cHead h).view.dmaCredit
abbrev NX : ℕ := (oHalf 0).view.dmaCredit

theorem pHead_credit (h : Fin 8) : (pHead h).view.dmaCredit = NY h := rfl
theorem oHalf_credit (d : Dev nD) : (oHalf d).view.dmaCredit = NX := rfl

def amtT : Tag → ℕ
  | .bar => 1
  | .ks s => NK s
  | .vs s => NV s
  | .ys h => NY h
  | .yr h => NY h
  | .xs => NX
  | .xr => NX
  | .off => 1

theorem amtT_pos : ∀ t, 0 < amtT t
  | .bar => Nat.one_pos
  | .ks _ => View.dmaCredit_pos _ (by decide)
  | .vs _ => View.dmaCredit_pos _ (by decide)
  | .ys _ => View.dmaCredit_pos _ (by decide)
  | .yr _ => View.dmaCredit_pos _ (by decide)
  | .xs => View.dmaCredit_pos _ (by decide)
  | .xr => View.dmaCredit_pos _ (by decide)
  | .off => Nat.one_pos

def rd : Rounds.Schedule (GSem nD τ sig) Bool 𝕄 where
  duties g r := if g.1.2 = .tc then dutT (tagOf g.2) r else ∅
  unitless _ := False
  amount g _ _ := amtT (tagOf g.2)
  payload g r d := payT W g.1.1 (tagOf g.2) r d
  amount_pos g _ _ _ := amtT_pos _

instance payT_storable (c : Dev nD) (t : Tag) (r : ℕ) (d : Bool) : BI.Storable (upEmb : UEmb _ 𝕄) (payT (F := F) W c t r d) := by
  cases t <;> cases d <;> (dsimp only [payT]; infer_instance)

instance rd_storable (g : GSem nD τ sig) (r : ℕ) (d : Bool) : BI.Storable (upEmb : UEmb _ 𝕄) ((rd (F := F) W).payload g r d) :=
  payT_storable W _ _ _ _

theorem duties_tc (c : Dev nD) (sm : SemLoc sig) (r : ℕ) : (rd (F := F) W).duties ((c : Thread nD τ), sm) r = dutT (tagOf sm) r := by
  dsimp only [rd]; exact if_pos rfl
theorem amount_eq (g : GSem nD τ sig) (r : ℕ) (d : Bool) : (rd (F := F) W).amount g r d = amtT (tagOf g.2) := rfl
theorem payload_eq (c : Dev nD) (sm : SemLoc sig) (r : ℕ) (d : Bool) : (rd (F := F) W).payload ((c : Thread nD τ), sm) r d = payT W c (tagOf sm) r d := rfl

/-- A cell with one duty in the round: what the round expects, and what it hands over. -/
theorem expect_one (c : Dev nD) (sm : SemLoc sig) (r : ℕ) (h : dutT (tagOf sm) r = {true}) :
    (rd (F := F) W).expect ((c : Thread nD τ), sm) r = amtT (tagOf sm) := by
  unfold Schedule.expect Schedule.amountOf; rw [duties_tc, h, Finset.sum_singleton]; rfl
theorem rest_one (c : Dev nD) (sm : SemLoc sig) (r : ℕ) (h : dutT (tagOf sm) r = {true}) :
    bigSep ((rd (F := F) W).duties ((c : Thread nD τ), sm) r \ ∅) (fun d => (rd (F := F) W).payload ((c : Thread nD τ), sm) r d)
      = payT W c (tagOf sm) r true := by
  rw [Finset.sdiff_empty, duties_tc, h, bigSep_singleton]; rfl

theorem expect_bar (c : Dev nD) : (rd (F := F) W).expect (barC c) 0 = 2 := by
  unfold Schedule.expect Schedule.amountOf; rw [duties_tc]; rfl
theorem rest_bar (c : Dev nD) :
    bigSep ((rd (F := F) W).duties (barC c) 0 \ ∅) (fun d => (rd (F := F) W).payload (barC c) 0 d)
      = iprop(payT W c .bar 0 true ∗ payT W c .bar 0 false) := by
  rw [Finset.sdiff_empty, duties_tc, show dutT (tagOf (.reg barSem)) 0 = {true, false} from rfl, bigSep_insert (by decide), bigSep_singleton]; rfl

theorem later4 (c : Dev nD) (sm : SemLoc sig) : ∀ r, 4 ≤ r → (rd (F := F) W).duties ((c : Thread nD τ), sm) r = ∅ := fun r hr => by
  rw [duties_tc]
  cases tagOf sm <;> (unfold dutT; dsimp only) <;> exact if_neg (by omega)
theorem later1 (c : Dev nD) (sm : SemLoc sig) (hk : ∀ s, tagOf sm ≠ .ks s) (hv : ∀ s, tagOf sm ≠ .vs s) :
    ∀ r, 1 ≤ r → (rd (F := F) W).duties ((c : Thread nD τ), sm) r = ∅ := fun r hr => by
  rw [duties_tc]
  cases h : tagOf sm with
  | ks s => exact absurd h (hk s)
  | vs s => exact absurd h (hv s)
  | off => rfl
  | _ => exact if_neg (by omega)

/-! ## What each device owes; the levels -/

/-- What is left to pay once the heads below `n` are sent: one landing per head at the peer along
    `y`, and the half at the peer along `x`. -/
def owe (c : Dev nD) (n : ℕ) : CellTallies nD τ sig Unit :=
  (∑ h ∈ Finset.univ.filter (fun h : Fin 8 => n ≤ h.val), tallyAt (yrC (yp c) h) () (NY h)) + tallyAt (xrC (xp c)) () NX

/-- And at entry: also a barrier unit at each peer. -/
def owe₀ (c : Dev nD) : CellTallies nD τ sig Unit := owe c 0 + tallyAt (barC (xp c)) () 1 + tallyAt (barC (yp c)) () 1

theorem owe_step (c : Dev nD) (h : Fin 8) : owe c h.val = owe c (h.val + 1) + tallyAt (yrC (yp c) h) () (NY h) := by
  unfold owe
  have e : Finset.univ.filter (fun h' : Fin 8 => h.val ≤ h'.val) = insert h (Finset.univ.filter (fun h' : Fin 8 => h.val + 1 ≤ h'.val)) := by
    revert h; decide
  rw [e, Finset.sum_insert (by simp), add_comm (tallyAt _ _ _), add_assoc, add_assoc, add_comm (tallyAt (yrC (yp c) h) () _)]
theorem owe_last (c : Dev nD) : owe c 8 = 0 + tallyAt (xrC (xp c)) () NX := by
  unfold owe
  rw [show Finset.univ.filter (fun h : Fin 8 => 8 ≤ h.val) = ∅ from by decide, Finset.sum_empty]

theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem owe_pos {c : Dev nD} {n : ℕ} {g : GSem nD τ sig} {u : Unit} (h : 0 < owe c n g u) :
    (∃ k, n ≤ k.val ∧ g = yrC (yp c) k) ∨ g = xrC (xp c) := by
  unfold owe at h
  rw [Pi.add_apply, Finsupp.add_apply] at h
  rcases Nat.add_pos_iff_pos_or_pos.mp h with h | h
  · left
    rw [Finset.sum_apply, Finsupp.finset_sum_apply] at h
    obtain ⟨k, hk, h⟩ := Finset.exists_ne_zero_of_sum_ne_zero (Nat.pos_iff_ne_zero.mp h)
    exact ⟨k, (Finset.mem_filter.mp hk).2, tally_pos (Nat.pos_iff_ne_zero.mpr h)⟩
  · exact .inr (tally_pos h)

theorem owe₀_pos {c : Dev nD} {g : GSem nD τ sig} {u : Unit} (h : 0 < owe₀ c g u) :
    (∃ k, g = yrC (yp c) k) ∨ g = xrC (xp c) ∨ g = barC (xp c) ∨ g = barC (yp c) := by
  unfold owe₀ at h
  rw [Pi.add_apply, Finsupp.add_apply, Pi.add_apply, Finsupp.add_apply] at h
  rcases Nat.add_pos_iff_pos_or_pos.mp h with h | h
  · rcases Nat.add_pos_iff_pos_or_pos.mp h with h | h
    · rcases owe_pos h with ⟨k, -, hk⟩ | h
      · exact .inl ⟨k, hk⟩
      · exact .inr (.inl h)
    · exact .inr (.inr (.inl (tally_pos h)))
  · exact .inr (.inr (.inr (tally_pos h)))

def L (g : GSem nD τ sig) : Finset Unit := if g.1.2 = .tc then {()} else ∅
def lvT : Tag → ℕ
  | .bar => 1
  | .yr _ => 2
  | .xr => 3
  | _ => 0
def lv (g : GSem nD τ sig) (_ : Unit) : ℕ := lvT (tagOf g.2)

theorem L_of_ne (g : GSem nD τ sig) (h : g.1.2 ≠ .tc) : L g = ∅ := if_neg h
theorem L_tc (c : Dev nD) (sm : SemLoc sig) : L ((c : Thread nD τ), sm) = {()} := if_pos rfl

theorem mayWait_of (c : Dev nD) (sm : SemLoc sig) (O : CellTallies nD τ sig Unit)
    (h : ∀ g u, 0 < O g u → (∃ (d : Dev nD) (s : SemLoc sig), g = ((d : Thread nD τ), s)) ∧ lvT (tagOf sm) < lvT (tagOf g.2)) :
    (levAts L lv : sProp 𝕄) ⊢ MayWait (c : Thread nD τ) sm () O :=
  MayOwe.of_cut (L := L) (lev := lv) (lvT (tagOf sm)) (fun p hp => by rw [Finset.mem_singleton.mp hp, L_tc]; exact Finset.mem_singleton_self _)
    (fun g u hg => by
      obtain ⟨⟨d, s, rfl⟩, -⟩ := h g u hg
      rw [L_tc]; exact Finset.mem_singleton_self _)
    (fun p hp => by rw [Finset.mem_singleton.mp hp]; exact le_refl _)
    (fun g u hg => (h g u hg).2)

theorem mayWait_owe (c : Dev nD) (sm : SemLoc sig) (n : ℕ) (hl : lvT (tagOf sm) < 2 ∨ (lvT (tagOf sm) < 3 ∧ n = 8)) :
    (levAts L lv : sProp 𝕄) ⊢ MayWait (c : Thread nD τ) sm () (owe c n) :=
  mayWait_of c sm _ fun g u hg => by
    rcases owe_pos hg with ⟨k, hk, rfl⟩ | rfl
    · refine ⟨⟨_, _, rfl⟩, ?_⟩
      show _ < lvT (tagOf (.dma (yrSem k)))
      rw [tag_yr]
      rcases hl with hl | ⟨-, hn⟩
      · exact hl
      · have := k.isLt; omega
    · refine ⟨⟨_, _, rfl⟩, ?_⟩
      show _ < lvT (tagOf (.dma xrSem))
      rw [tag_xr]
      show _ < 3
      omega

end Cert.KernelIdeal.Paged

end
-- ==== Proof.Heads.lean ====
/-
  The steps of the body, each run once at a symbolic device and a symbolic head: starting a head's
  copies, working on a head, and collecting its exchange.
-/
module

public import proofs.«01_k».proof.Proof.Sched

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The cells, and their invariants -/

/-- The kernel's own semaphores. -/
abbrev Own : Type := Fin 2 ⊕ Fin 2 ⊕ Fin 8 ⊕ Fin 8 ⊕ Fin 2
def ownSem : Own → SemLoc sig
  | .inl s => .dma (kSem s)
  | .inr (.inl s) => .dma (vSem s)
  | .inr (.inr (.inl h)) => .dma (ysSem h)
  | .inr (.inr (.inr (.inl h))) => .dma (yrSem h)
  | .inr (.inr (.inr (.inr 0))) => .dma xsSem
  | .inr (.inr (.inr (.inr 1))) => .dma xrSem

theorem ownSem_inj : Function.Injective ownSem := by decide
theorem ownSem_ne_bar : ∀ k : Own, ownSem k ≠ .reg barSem := by decide

def barEmb : Dev nD ↪ GSem nD τ sig := ⟨fun c => barC c, fun _ _ h => congrArg (fun g : GSem nD τ sig => g.1.1) h⟩
def ownEmb : Dev nD × Own ↪ GSem nD τ sig :=
  ⟨fun ck => ((ck.1 : Thread nD τ), ownSem ck.2), fun _ _ h =>
    Prod.ext (congrArg (fun g : GSem nD τ sig => g.1.1) h) (ownSem_inj (congrArg Prod.snd h))⟩
abbrev barCells : Finset (GSem nD τ sig) := Finset.univ.map barEmb
abbrev ownCells : Finset (GSem nD τ sig) := Finset.univ.map ownEmb

theorem bar_mem (c : Dev nD) : barC c ∈ (barCells ∪ ownCells : Finset (GSem nD τ sig)) :=
  Finset.mem_union_left _ (Finset.mem_map_of_mem barEmb (Finset.mem_univ c))
theorem own_mem (c : Dev nD) (k : Own) : ((c : Thread nD τ), ownSem k) ∈ (barCells ∪ ownCells : Finset (GSem nD τ sig)) :=
  Finset.mem_union_right _ (Finset.mem_map_of_mem ownEmb (Finset.mem_univ (c, k)))

variable (W : Dev nD → Valuation τ sig (Elt F))

/-- Every cell's invariant, under one map of names. -/
def invs (κ : GSem nD τ sig → ℕ) : sProp 𝕄 := bigSep (barCells ∪ ownCells) fun g => cellInv ER (rd W) (κ g) g

instance invs_persistent (κ : GSem nD τ sig → ℕ) : BI.Persistent (invs W κ) := by unfold invs; infer_instance

variable (κ : GSem nD τ sig → ℕ)

theorem inv_bar (c : Dev nD) : invs W κ ⊢ cellInv ER (rd W) (κ (barC c)) (barC c) := bigSep_elim (bar_mem c)
theorem inv_k (c : Dev nD) (s : Fin 2) : invs W κ ⊢ cellInv ER (rd W) (κ (kC c s)) (kC c s) := bigSep_elim (own_mem c (.inl s))
theorem inv_v (c : Dev nD) (s : Fin 2) : invs W κ ⊢ cellInv ER (rd W) (κ (vC c s)) (vC c s) := bigSep_elim (own_mem c (.inr (.inl s)))
theorem inv_ys (c : Dev nD) (h : Fin 8) : invs W κ ⊢ cellInv ER (rd W) (κ (ysC c h)) (ysC c h) := bigSep_elim (own_mem c (.inr (.inr (.inl h))))
theorem inv_yr (c : Dev nD) (h : Fin 8) : invs W κ ⊢ cellInv ER (rd W) (κ (yrC c h)) (yrC c h) := bigSep_elim (own_mem c (.inr (.inr (.inr (.inl h)))))
theorem inv_xs (c : Dev nD) : invs W κ ⊢ cellInv ER (rd W) (κ (xsC c)) (xsC c) := bigSep_elim (own_mem c (.inr (.inr (.inr (.inr 0)))))
theorem inv_xr (c : Dev nD) : invs W κ ⊢ cellInv ER (rd W) (κ (xrC c)) (xrC c) := bigSep_elim (own_mem c (.inr (.inr (.inr (.inr 1)))))

/-! ## Contents after a copy or a store -/

theorem exists_ix2 {a b : ℕ} (y : (⟨2, ![a, b]⟩ : Shape).Idx) : ∃ (i : Fin a) (j : Fin b), y = ix2 i j := ⟨y 0, y 1, eq_ix2 y⟩
theorem exists_ix3 {a b c : ℕ} (y : (⟨3, ![a, b, c]⟩ : Shape).Idx) : ∃ (i : Fin a) (j : Fin b) (k : Fin c), y = ix3 i j k :=
  ⟨y 0, y 1, y 2, eq_ix3 y⟩
theorem exists_ix4 {a b c d : ℕ} (y : (⟨4, ![a, b, c, d]⟩ : Shape).Idx) : ∃ (i : Fin a) (j : Fin b) (k : Fin c) (l : Fin d), y = ix4 i j k l :=
  ⟨y 0, y 1, y 2, y 3, eq_ix4 y⟩

theorem copied_k (c : Dev nD) (h : Fin 8) (fd : Vec F S2x8192x128 .f32) :
    ∀ i ∈ (kSlot (slotOf h)).view.set,
      (kSlot (slotOf h)).view.write (Elt F) fd ((kHead c h).view.read (Elt F) (kv W c)) Finset.univ i = kf W c h i := fun i hi => by
  obtain ⟨y, -, rfl⟩ := Finset.mem_map.mp hi
  refine (View.write_emb_of_mem _ _ (Finset.mem_univ y)).trans ?_
  obtain ⟨a, b, rfl⟩ := exists_ix2 (a := 8192) (b := 128) y
  exact (congrArg (kv W c) (emb_kHead c h a b)).trans (congrArg (kf W c h) (emb_kSlot (slotOf h) a b)).symm
theorem copied_v (c : Dev nD) (h : Fin 8) (fd : Vec F S2x8192x128 .f32) :
    ∀ i ∈ (vSlot (slotOf h)).view.set,
      (vSlot (slotOf h)).view.write (Elt F) fd ((vHead c h).view.read (Elt F) (vv W c)) Finset.univ i = vf W c h i := fun i hi => by
  obtain ⟨y, -, rfl⟩ := Finset.mem_map.mp hi
  refine (View.write_emb_of_mem _ _ (Finset.mem_univ y)).trans ?_
  obtain ⟨a, b, rfl⟩ := exists_ix2 (a := 8192) (b := 128) y
  exact (congrArg (vv W c) (emb_vHead c h a b)).trans (congrArg (vf W c h) (emb_vSlot (slotOf h) a b)).symm

/-- One part stored: at that part the new value, elsewhere as before. -/
theorem stored_hit (c : Dev nD) (h : Fin 8) (j : Fin 3) (f : Vec F S8x3x32x128 .f32) (x : Fin 32) (y : Fin 128) :
    (pB.access (partRect h j)).write (Elt F) f (part W c h j) Finset.univ (ix4 h j x y) = pk W c (ix4 h j x y) := by
  rw [← emb_part h j x y]
  refine (View.write_emb_of_mem _ _ (Finset.mem_univ _)).trans ?_
  rw [emb_part h j x y]
  rfl
theorem stored_miss (h : Fin 8) (j k : Fin 3) (hk : k ≠ j) (f : Vec F S8x3x32x128 .f32) (w : FVec F S1x1x32x128 .f32) (x : Fin 32) (y : Fin 128) :
    (pB.access (partRect h j)).write (Elt F) f w Finset.univ (ix4 h k x y) = f (ix4 h k x y) :=
  View.write_of_not_mem _ _ _ fun hi => hk ((mem_part h j (ix4 h k x y)).mp hi).2

theorem stored (c : Dev nD) (h : Fin 8) (f : Vec F S8x3x32x128 .f32) : ∀ i ∈ ((pHead h).view.set : Finset S8x3x32x128.Idx),
    (pB.access (partRect h 2)).write (Elt F) ((pB.access (partRect h 1)).write (Elt F) ((pB.access (partRect h 0)).write (Elt F) f
      (part W c h 0) Finset.univ) (part W c h 1) Finset.univ) (part W c h 2) Finset.univ i = pk W c i := fun i hi => by
  obtain ⟨h', j, x, y, rfl⟩ := exists_ix4 i
  obtain rfl : h' = h := (mem_pHead h _).mp hi
  by_cases e2 : j = 2
  · subst e2; exact stored_hit W c h' 2 _ x y
  refine (stored_miss h' 2 j e2 _ _ x y).trans ?_
  by_cases e1 : j = 1
  · subst e1; exact stored_hit W c h' 1 _ x y
  refine (stored_miss h' 1 j e1 _ _ x y).trans ?_
  obtain rfl : j = 0 := (by decide : ∀ k : Fin 3, ¬k = 2 → ¬k = 1 → k = 0) j e2 e1
  exact stored_hit W c h' 0 _ x y

theorem sent_y (c : Dev nD) (h : Fin 8) (fd : Vec F S8x3x32x128 .f32) : ∀ i ∈ (cHead h).view.set,
    (cHead h).view.write (Elt F) fd ((pHead h).view.read (Elt F) (pk W c)) Finset.univ i = pk W c i := fun i hi => by
  obtain ⟨y, -, rfl⟩ := Finset.mem_map.mp hi
  exact View.write_emb_of_mem _ _ (Finset.mem_univ y)

theorem sent_x (c : Dev nD) (fd : Vec F S16x32x128 .f32) : ∀ i ∈ (oHalf c).view.set,
    (oHalf c).view.write (Elt F) fd ((oHalf c).view.read (Elt F) (outv W c)) Finset.univ i = outv W c i := fun i hi => by
  obtain ⟨y, -, rfl⟩ := Finset.mem_map.mp hi
  exact View.write_emb_of_mem _ _ (Finset.mem_univ y)

theorem emb_merge (c : Dev nD) (x : Fin 8) (a : Fin 32) (b : Fin 128) :
    (oM.access (mergeRect c)).emb (ix3 x a b) = ix3 (⟨8 * (c.val / 2) + x.val, by have := row_lt c; omega⟩ : Fin 16) a b := by
  show (mergeRect c).emb (ix3 x a b) = _
  have e := Gen.k0_off2_eq c
  refine Shape.idx3_ext ?_ ?_ ?_
  · show k0_off2 c 0 + 1 * x.val = 8 * (c.val / 2) + x.val
    rw [e]; show 8 * (c.val / 2) + 1 * x.val = _; omega
  · show k0_off2 c 1 + 1 * a.val = a.val
    rw [e]; show 0 + 1 * a.val = _; omega
  · show k0_off2 c 2 + 1 * b.val = b.val
    rw [e]; show 0 + 1 * b.val = _; omega

theorem outv_at (c : Dev nD) (x : Fin 8) (a : Fin 32) (b : Fin 128) (hg : 8 * (c.val / 2) + x.val < 16) :
    outv W c (ix3 (⟨8 * (c.val / 2) + x.val, hg⟩ : Fin 16) a b) = half W c (ix3 x a b) := by
  have e1 : (⟨(8 * (c.val / 2) + x.val) / 8, by omega⟩ : Fin 2) = rowOf c := Fin.ext (by show (8 * (c.val / 2) + x.val) / 8 = c.val / 2; omega)
  have e2 : (⟨(8 * (c.val / 2) + x.val) % 8, Nat.mod_lt _ (by decide)⟩ : Fin 8) = x := Fin.ext (by show (8 * (c.val / 2) + x.val) % 8 = x.val; omega)
  show half W (inCol c ⟨(8 * (c.val / 2) + x.val) / 8, _⟩) (ix3 (⟨(8 * (c.val / 2) + x.val) % 8, _⟩ : Fin 8) a b) = _
  rw [e1, inCol_own, e2]

theorem merged_stored (c : Dev nD) (f : Vec F S16x32x128 .f32) : ∀ i ∈ ((oHalf c).view.set : Finset S16x32x128.Idx),
    (oM.access (mergeRect c)).write (Elt F) f (half W c) Finset.univ i = outv W c i := fun i hi => by
  rw [← oRect_set c] at hi
  obtain ⟨y, -, rfl⟩ := Finset.mem_map.mp hi
  refine (View.write_emb_of_mem _ _ (Finset.mem_univ y)).trans ?_
  obtain ⟨x, a, b, rfl⟩ := exists_ix3 (a := 8) (b := 32) (c := 128) y
  exact (outv_at W c x a b _).symm.trans (congrArg (outv W c) (emb_merge c x a b)).symm

end Cert.KernelIdeal.Paged

end
-- ==== Proof.Steps.lean ====
/-
  One head of the body, run once at a symbolic device and a symbolic head: starting its copies,
  working on it and sending its partial result, and collecting the exchange.
-/
module

public import proofs.«01_k».proof.Proof.Heads

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

/-- Device `c` runs a program of the body, ending in `Kt`. -/
abbrev runs {α : Type} (c : Dev nD) (p : P F α) (Kt : α → sProp (MT nD τ sig Unit (Elt F) ℕ UU ℕ)) : sProp (MT nD τ sig Unit (Elt F) ℕ UU ℕ) :=
  wp frame (wpE (defs₀ (F := F)) 𝒱₀ (c : Thread nD τ) none) Set.univ p Kt

variable (W : Dev nD → Valuation τ sig (Elt F)) (κ : GSem nD τ sig → ℕ)

/-- A whole buffer of device `c` at `f`. -/
abbrev whole (c : Dev nD) (b : Ref sig .tc) (f : Buf (Elt F) ((c : Thread nD τ).loc b)) : sProp (MT nD τ sig Unit (Elt F) ℕ UU ℕ) :=
  (c : Thread nD τ).loc b ↦{fullShare} f

/-! ## Starting a head's copies -/

theorem half_lt (h : Fin 8) : h.val / 2 < 4 := by have := h.isLt; omega

theorem dut_k (h : Fin 8) : dutT (tagOf (.dma (kSem (slotOf h)))) (h.val / 2) = {true} := by rw [tag_k]; exact if_pos (half_lt h)
theorem dut_v (h : Fin 8) : dutT (tagOf (.dma (vSem (slotOf h)))) (h.val / 2) = {true} := by rw [tag_v]; exact if_pos (half_lt h)
theorem dut_ys (h : Fin 8) : dutT (tagOf (.dma (ysSem h))) 0 = {true} := by rw [tag_ys]; rfl
theorem dut_yr (h : Fin 8) : dutT (tagOf (.dma (yrSem h))) 0 = {true} := by rw [tag_yr]; rfl
theorem dut_xs : dutT (tagOf (.dma xsSem)) 0 = {true} := by rw [tag_xs]; rfl
theorem dut_xr : dutT (tagOf (.dma xrSem)) 0 = {true} := by rw [tag_xr]; rfl

theorem duty_mem (c : Dev nD) (sm : SemLoc sig) (r : ℕ) (h : dutT (tagOf sm) r = {true}) : true ∈ (rd (F := F) W).duties ((c : Thread nD τ), sm) r := by
  rw [duties_tc, h]; exact Finset.mem_singleton_self _

theorem pay_k (c : Dev nD) (h : Fin 8) : payT W c (tagOf (.dma (kSem (slotOf h)))) (h.val / 2) true
    = iprop(pts c (kSlot (slotOf h)) (kf W c h) ∗ pts c (kHead c h) (kv W c)) :=
  (congrArg (fun t => payT W c t (h.val / 2) true) (tag_k (slotOf h))).trans
    (congrArg (fun n => iprop(pts c (kSlot (slotOf h)) (kf W c n) ∗ pts c (kHead c n) (kv W c))) (headAt_slot h))
theorem pay_v (c : Dev nD) (h : Fin 8) : payT W c (tagOf (.dma (vSem (slotOf h)))) (h.val / 2) true
    = iprop(pts c (vSlot (slotOf h)) (vf W c h) ∗ pts c (vHead c h) (vv W c)) :=
  (congrArg (fun t => payT W c t (h.val / 2) true) (tag_v (slotOf h))).trans
    (congrArg (fun n => iprop(pts c (vSlot (slotOf h)) (vf W c n) ∗ pts c (vHead c n) (vv W c))) (headAt_slot h))
theorem pay_ys (c : Dev nD) (h : Fin 8) : payT W c (tagOf (.dma (ysSem h))) 0 true = pts c (pHead h) (pk W c) := by rw [tag_ys]; rfl
theorem pay_yr (c : Dev nD) (h : Fin 8) : payT W c (tagOf (.dma (yrSem h))) 0 true = pts c (cHead h) (pk W (yp c)) := by rw [tag_yr]; rfl
theorem pay_xs (c : Dev nD) : payT W c (tagOf (.dma xsSem)) 0 true = pts c (oHalf c) (outv W c) := by rw [tag_xs]; rfl
theorem pay_xr (c : Dev nD) : payT W c (tagOf (.dma xrSem)) 0 true = pts c (oHalf (xp c)) (outv W c) := by rw [tag_xr]; rfl

/-- The two credits a head's copies leave. -/
def flying (c : Dev nD) (h : Fin 8) : sProp 𝕄 :=
  iprop(cred (tallyAt (kC c (slotOf h)) () (NK (slotOf h))) ∗ cred (tallyAt (vC c (slotOf h)) () (NV (slotOf h))))

/-- What a head's copies take: the two duties of its round, the head's keys and values. -/
def feed (c : Dev nD) (h : Fin 8) : sProp 𝕄 :=
  iprop(dutyTok ER (kC c (slotOf h)) (h.val / 2) true ∗ dutyTok ER (vC c (slotOf h)) (h.val / 2) true
    ∗ pts c (kHead c h) (kv W c) ∗ pts c (vHead c h) (vv W c))

/-- A slot free for the copies of round `r`. -/
def free (F : FTy → Type) [FloatOps F] (c : Dev nD) (s : Fin 2) (r : ℕ) : sProp (MT nD τ sig Unit (Elt F) ℕ UU ℕ) :=
  iprop(ptsAny F c (kSlot s) ∗ ptsAny F c (vSlot s) ∗ reached ER (kC c s) r ∗ reached ER (vC c s) r)

theorem issueRun (c : Dev nD) (h : Fin 8) (Kt : PUnit → sProp 𝕄) :
    iprop((invs W κ ∗ feed W c h ∗ free F c (slotOf h) (h.val / 2)) ∗ (flying c h -∗ Kt ⟨⟩)) ⊢ runs c (issue c h) Kt := by
  unfold feed free flying runs
  simp only [issue, Prog.lift, Prog.bind_op, Prog.bind_ret]
  iintro ⟨⟨#HI, ⟨HtK, HtV, HK, HV⟩, ⟨%fk, HkS⟩, ⟨%fv, HvS⟩, #HrK, #HrV⟩, Hk⟩
  iapply (Rounds.wp_copy_pointsTo 𝒱₀ ER (rd W) (c : Thread nD τ) none (src := kHead c h) (dst := kSlot (slotOf h)) (sem := .dma (kSem (slotOf h)))
      (q := fullShare) (fs := kv W c) (fd := fk) (r := h.val / 2) (d := true) (κ := κ (kC c (slotOf h)))
      (duty_mem W c _ _ (dut_k h)) () (NK (slotOf h)) rfl (by rw [amount_eq]; dsimp only; rw [tag_k]; rfl)
      (by rw [payload_eq, pay_k, pointsTo_congr (copied_k W c h fk)])) $$ [HK HkS HtK]
  · isplitr; · iapply (inv_k W κ c (slotOf h)); iexact HI
    isplitl [HK]; · iexact HK
    isplitl [HkS]; · iexact HkS
    isplitl [HtK]; · iexact HtK
    iexact HrK
  iintro HcK
  iapply (Rounds.wp_copy_pointsTo 𝒱₀ ER (rd W) (c : Thread nD τ) none (src := vHead c h) (dst := vSlot (slotOf h)) (sem := .dma (vSem (slotOf h)))
      (q := fullShare) (fs := vv W c) (fd := fv) (r := h.val / 2) (d := true) (κ := κ (vC c (slotOf h)))
      (duty_mem W c _ _ (dut_v h)) () (NV (slotOf h)) rfl (by rw [amount_eq]; dsimp only; rw [tag_v]; rfl)
      (by rw [payload_eq, pay_v, pointsTo_congr (copied_v W c h fv)])) $$ [HV HvS HtV]
  · isplitr; · iapply (inv_v W κ c (slotOf h)); iexact HI
    isplitl [HV]; · iexact HV
    isplitl [HvS]; · iexact HvS
    isplitl [HtV]; · iexact HtV
    iexact HrV
  iintro HcV
  rw [wp_ret]; imodintro
  iapply Hk
  isplitl [HcK] <;> iassumption

/-! ## Working on a head -/

/-- What a head's exchange takes: where its partial result goes, there and here, and the two duties. -/
def trade (c : Dev nD) (h : Fin 8) : sProp 𝕄 :=
  iprop(ptsAny F c (pHead h) ∗ ptsAny F (yp c) (cHead h) ∗ reached ER (yrC (yp c) h) 0 ∗ reached ER (ysC c h) 0
    ∗ dutyTok ER (ysC c h) 0 true ∗ dutyTok ER (yrC (yp c) h) 0 true)

/-- The owner's positions on a slot's two cells, before round `r`. -/
def seat (F : FTy → Type) [FloatOps F] (c : Dev nD) (s : Fin 2) (r : ℕ) : sProp (MT nD τ sig Unit (Elt F) ℕ UU ℕ) :=
  iprop(atPos ER (kC c s) r ∅ 0 ∗ atPos ER (vC c s) r ∅ 0)

/-- A head's keys and values, back in the whole arrays. -/
def fed (c : Dev nD) (h : Fin 8) : sProp 𝕄 := iprop(pts c (kHead c h) (kv W c) ∗ pts c (vHead c h) (vv W c))

/-- Device `c` owes what is left once the heads below `n` are sent. -/
def owing (F : FTy → Type) [FloatOps F] (c : Dev nD) (n : ℕ) : sProp (MT nD τ sig Unit (Elt F) ℕ UU ℕ) :=
  iprop(∃ Wt, owes (c : Thread nD τ) (owe c n) Wt)

/-- The waits for a head's keys and values. -/
def await (c : Dev nD) (h : Fin 8) : P F PUnit := do
  Prog.lift (.waitDma2 (kSem (slotOf h)) (kHead c h) (kSlot (slotOf h)) ((View.wordExact_bits rfl).reshape _ _) ((View.wordExact_bits rfl).reshape _ _))
  Prog.lift (.waitDma2 (vSem (slotOf h)) (vHead c h) (vSlot (slotOf h)) ((View.wordExact_bits rfl).reshape _ _) ((View.wordExact_bits rfl).reshape _ _))
/-- The loads of a head's query, keys and values. -/
def fetch (h : Fin 8) : P F (Vec F S1x32x128 .f32 × Vec F S1x8192x128 .f32 × Vec F S1x8192x128 .f32) := do
  let q : Vec F S1x32x128 .f32 ← Prog.lift (.load qM (Rect.unit (s := S8x32x128) ![h.val, 0, 0] S1x32x128.size (head_inb h)).toLoadRect (View.loadsAt_vmem h_S1x32x128))
  let k : Vec F S1x8192x128 .f32 ← Prog.lift (.load kB (slotRect (slotOf h)).toLoadRect (View.loadsAt_vmem h_S1x8192x128))
  let v : Vec F S1x8192x128 .f32 ← Prog.lift (.load vB (slotRect (slotOf h)).toLoadRect (View.loadsAt_vmem h_S1x8192x128))
  .ret (q, k, v)
/-- The store of one part. -/
def put (h : Fin 8) (j : Fin 3) (x : FVec F S1x1x32x128 .f32) : P F PUnit := do
  let _ : Vec F S1x1x32x128 .f32 ← Prog.lift (.load pB (partRect h j).toLoadRect (View.loadsAt_vmem h_S1x1x32x128))
  Prog.lift (.store pB (partRect h j) x Finset.univ (View.stores_vmem_bits_univ h_S1x1x32x128 rfl) (.inl rfl))
/-- The send of a partial result to device `p`. -/
def post (p : Dev nD) (h : Fin 8) : P F PUnit :=
  Prog.lift (.enqueueDma (pHead h) (.remote (Dev.tc p) (cHead h) (.dma (ysSem h))) (.dma (yrSem h)) ((View.wordExact_bits rfl).reshape _ _) ((View.wordExact_bits rfl).reshape _ _) ⟨⟨rfl, Or.inl rfl⟩, trivial⟩)

theorem compute_eq (c : Dev nD) (w : FVec F S32x8192 .f32) (h : Fin 8) :
    compute (F := F) c w h = (await c h >>= fun _ => fetch h >>= fun x => put h 0 (accum (expo (scores x.1 x.2.1 w) w) x.2.2) >>= fun _ =>
      put h 1 (spread (peak (scores x.1 x.2.1 w))) >>= fun _ => put h 2 (spread (total (expo (scores x.1 x.2.1 w) w))) >>= fun _ =>
      post (⟨k0_dev3 c, k0_dev3_lt c⟩ : Dev nD) h) := rfl

theorem awaitRun (c : Dev nD) (h : Fin 8) (Kt : PUnit → sProp 𝕄) :
    iprop((invs W κ ∗ levAts L lv ∗ flying c h ∗ seat F c (slotOf h) (h.val / 2) ∗ owing F c h.val)
        ∗ ((seat F c (slotOf h) (h.val / 2 + 1) ∗ reached ER (kC c (slotOf h)) (h.val / 2 + 1) ∗ reached ER (vC c (slotOf h)) (h.val / 2 + 1)
            ∗ pts c (kSlot (slotOf h)) (kf W c h) ∗ pts c (vSlot (slotOf h)) (vf W c h) ∗ fed W c h ∗ owing F c h.val) -∗ Kt ⟨⟩))
      ⊢ runs c (await c h) Kt := by
  unfold seat flying fed owing runs
  simp only [await, Prog.lift, Prog.bind_op, Prog.bind_ret]
  iintro ⟨⟨#HI, #Hlev, ⟨HcK, HcV⟩, ⟨HaK, HaV⟩, ⟨%Wt, HO⟩⟩, Hk⟩
  iapply (Rounds.wp_wait_rest_token 𝒱₀ ER (rd W) (c : Thread nD τ) none (κ := κ (kC c (slotOf h)))
      (wpE_waitDma2_eq (src := kHead c h) (dst := kSlot (slotOf h)) 𝒱₀ (c : Thread nD τ) none Set.univ) (Set.mem_univ _) () (O := owe c h.val) (W := Wt)
      (R := h.val / 2) (m := 0) (T := ∅)
      ((Nat.zero_add _).trans ((expect_one W c _ _ (dut_k h)).trans (congrArg amtT (tag_k _))).symm)) $$ [HcK HO HaK]
  · isplitr; · iapply (inv_k W κ c (slotOf h)); iexact HI
    isplitl [HcK]; · iexact HcK
    isplitl [HO]; · iexact HO
    isplitr; · iapply (mayWait_owe c (.dma (kSem (slotOf h))) h.val (.inl (by rw [tag_k]; exact Nat.zero_lt_two))); iexact Hlev
    iexact HaK
  iintro ⟨HO, HaK, #HrK, Hpay⟩
  ihave HK := (Entails.of_eq ((rest_one W c _ _ (dut_k h)).trans (pay_k W c h))) $$ Hpay
  icases HK with ⟨HkS, HkH⟩
  iapply (Rounds.wp_wait_rest_token 𝒱₀ ER (rd W) (c : Thread nD τ) none (κ := κ (vC c (slotOf h)))
      (wpE_waitDma2_eq (src := vHead c h) (dst := vSlot (slotOf h)) 𝒱₀ (c : Thread nD τ) none Set.univ) (Set.mem_univ _) () (O := owe c h.val)
      (W := insert (SemLoc.dma (kSem (slotOf h)), ()) Wt) (R := h.val / 2) (m := 0) (T := ∅)
      ((Nat.zero_add _).trans ((expect_one W c _ _ (dut_v h)).trans (congrArg amtT (tag_v _))).symm)) $$ [HcV HO HaV]
  · isplitr; · iapply (inv_v W κ c (slotOf h)); iexact HI
    isplitl [HcV]; · iexact HcV
    isplitl [HO]; · iexact HO
    isplitr; · iapply (mayWait_owe c (.dma (vSem (slotOf h))) h.val (.inl (by rw [tag_v]; exact Nat.zero_lt_two))); iexact Hlev
    iexact HaV
  iintro ⟨HO, HaV, #HrV, Hpay⟩
  ihave HV := (Entails.of_eq ((rest_one W c _ _ (dut_v h)).trans (pay_v W c h))) $$ Hpay
  icases HV with ⟨HvS, HvH⟩
  rw [wp_ret]; imodintro
  iapply Hk
  isplitl [HaK HaV]; · isplitl [HaK] <;> iassumption
  isplitr; · iexact HrK
  isplitr; · iexact HrV
  isplitl [HkS]; · iexact HkS
  isplitl [HvS]; · iexact HvS
  isplitl [HkH HvH]; · isplitl [HkH] <;> iassumption
  iexists _; iexact HO

theorem fetchRun (c : Dev nD) (h : Fin 8) (Kt : _ → sProp 𝕄) :
    iprop((whole c cc0_stg0_0 (qv W c) ∗ pts c (kSlot (slotOf h)) (kf W c h) ∗ pts c (vSlot (slotOf h)) (vf W c h))
        ∗ ((whole c cc0_stg0_0 (qv W c) ∗ pts c (kSlot (slotOf h)) (kf W c h) ∗ pts c (vSlot (slotOf h)) (vf W c h)) -∗ Kt (ql W c h, kl W c h, vl W c h)))
      ⊢ runs c (fetch h) Kt := by
  unfold runs ql kl vl
  simp only [fetch, Prog.lift, Prog.bind_op, Prog.bind_ret]
  iintro ⟨⟨Hq, HkS, HvS⟩, Hk⟩
  iapply (wp_load_rect 𝒱₀ (c : Thread nD τ) none Set.univ (m := qM) (r := Rect.unit (s := S8x32x128) ![h.val, 0, 0] S1x32x128.size (head_inb h))
    (Finset.subset_univ _)) $$ Hq
  iintro Hq
  iapply (wp_load_rect 𝒱₀ (c : Thread nD τ) none Set.univ (m := kB) (r := slotRect (slotOf h)) (slotRect_set (slotOf h)).subset) $$ HkS
  iintro HkS
  iapply (wp_load_rect 𝒱₀ (c : Thread nD τ) none Set.univ (m := vB) (r := slotRect (slotOf h)) (slotRect_set' (slotOf h)).subset) $$ HvS
  iintro HvS
  rw [wp_ret]; imodintro
  iapply Hk
  isplitl [Hq]; · iexact Hq
  isplitl [HkS]; · iexact HkS
  iexact HvS

theorem putRun (c : Dev nD) (h : Fin 8) (j : Fin 3) (x : FVec F S1x1x32x128 .f32) (f : Vec F S8x3x32x128 .f32) (Kt : PUnit → sProp 𝕄) :
    iprop(pts c (pHead h) f ∗ (pts c (pHead h) ((pB.access (partRect h j)).write (Elt F) f x Finset.univ) -∗ Kt ⟨⟩))
      ⊢ runs c (put h j x) Kt := by
  unfold runs
  simp only [put, Prog.lift, Prog.bind_op, Prog.bind_ret]
  iintro ⟨Hp, Hk⟩
  iapply (wp_load_rect 𝒱₀ (c : Thread nD τ) none Set.univ (m := pB) (r := partRect h j) (part_sub h j)) $$ Hp
  iintro Hp
  iapply (wp_store 𝒱₀ (c : Thread nD τ) none Set.univ (m := pB) (r := partRect h j) (part_sub h j)) $$ Hp
  iintro Hp
  rw [wp_ret]; imodintro
  iapply Hk; iexact Hp

theorem postRun (c p : Dev nD) (hp : p = yp c) (h : Fin 8) (Kt : PUnit → sProp 𝕄) :
    iprop((invs W κ ∗ pts c (pHead h) (pk W c) ∗ ptsAny F (yp c) (cHead h) ∗ reached ER (yrC (yp c) h) 0 ∗ reached ER (ysC c h) 0
            ∗ dutyTok ER (ysC c h) 0 true ∗ dutyTok ER (yrC (yp c) h) 0 true ∗ owing F c h.val)
        ∗ ((cred (tallyAt (ysC c h) () (NY h)) ∗ owing F c (h.val + 1)) -∗ Kt ⟨⟩))
      ⊢ runs c (post p h) Kt := by
  subst hp
  unfold runs owing
  simp only [post, Prog.lift]
  iintro ⟨⟨#HI, Hp, ⟨%fc, Hc⟩, #HrY, #HrS, HtS, HtY, ⟨%Wt, HO⟩⟩, Hk⟩
  iapply (Rounds.wp_send_pointsTo 𝒱₀ ER (rd W) (c : Thread nD τ) none (c' := (yp c : Thread nD τ)) (src := pHead h) (dst := cHead h)
      (sS := .dma (ysSem h)) (sem := .dma (yrSem h)) (q := fullShare) (fs := pk W c) (κ₁ := κ (ysC c h)) (κ₂ := κ (yrC (yp c) h))
      (r₁ := 0) (r₂ := 0) (d₁ := true) (d₂ := true) (fd := fc)
      (duty_mem W c _ _ (dut_ys h)) (duty_mem W (yp c) _ _ (dut_yr h)) () () (NY h) rfl
      (by rw [amount_eq]; dsimp only; rw [tag_ys]; rfl) (by rw [amount_eq]; dsimp only; rw [tag_yr]; rfl)
      (owe c (h.val + 1)) (owe_step c h) (W := Wt)
      (by rw [payload_eq, pay_ys])
      (by rw [payload_eq, pay_yr, yp_yp, pointsTo_congr (sent_y W c h fc)])) $$ [Hp Hc HO HtS HtY]
  · isplitr; · iapply (inv_ys W κ c h); iexact HI
    isplitr; · iapply (inv_yr W κ (yp c) h); iexact HI
    isplitl [Hp]; · iexact Hp
    isplitl [Hc]; · iexact Hc
    isplitl [HO]; · iexact HO
    isplitl [HtS]; · iexact HtS
    isplitr; · iexact HrS
    isplitl [HtY]; · iexact HtY
    iexact HrY
  iintro ⟨HcS, HO⟩
  rw [wp_ret]; imodintro
  iapply Hk
  isplitl [HcS]; · iexact HcS
  iexists _; iexact HO

theorem computeRun (c : Dev nD) (h : Fin 8) (Kt : PUnit → sProp 𝕄) :
    iprop((invs W κ ∗ levAts L lv ∗ flying c h ∗ seat F c (slotOf h) (h.val / 2) ∗ whole c cc0_stg0_0 (qv W c) ∗ trade c h ∗ owing F c h.val)
        ∗ ((seat F c (slotOf h) (h.val / 2 + 1) ∗ free F c (slotOf h) (h.val / 2 + 1) ∗ fed W c h ∗ whole c cc0_stg0_0 (qv W c)
            ∗ cred (tallyAt (ysC c h) () (NY h)) ∗ owing F c (h.val + 1)) -∗ Kt ⟨⟩))
      ⊢ runs c (compute c (wl W c) h) Kt := by
  unfold trade free runs
  rw [compute_eq]
  iintro ⟨⟨#HI, #Hlev, Hf, Hs, Hq, ⟨⟨%fp, Hp⟩, Hc, #HrY, #HrS, HtS, HtY⟩, HO⟩, Hk⟩
  rw [wp_bind]
  iapply (awaitRun W κ c h)
  isplitl [Hf Hs HO]
  · isplitr; · iexact HI
    isplitr; · iexact Hlev
    isplitl [Hf]; · iexact Hf
    isplitl [Hs] <;> iassumption
  iintro ⟨Hs, #HrK, #HrV, HkS, HvS, Hfed, HO⟩
  rw [wp_bind]
  iapply (fetchRun W c h)
  isplitl [Hq HkS HvS]
  · isplitl [Hq]; · iexact Hq
    isplitl [HkS] <;> iassumption
  iintro ⟨Hq, HkS, HvS⟩
  rw [wp_bind]
  iapply (putRun c h 0 _ fp)
  isplitl [Hp]; · iexact Hp
  iintro Hp
  rw [wp_bind]
  iapply (putRun c h 1 _ _)
  isplitl [Hp]; · iexact Hp
  iintro Hp
  rw [wp_bind]
  iapply (putRun c h 2 _ _)
  isplitl [Hp]; · iexact Hp
  iintro Hp
  ihave Hp := (Entails.of_eq (pointsTo_congr (stored W c h fp))) $$ Hp
  iapply (postRun W κ c _ (dev3 c) h)
  isplitl [Hp Hc HO HtS HtY]
  · isplitr; · iexact HI
    isplitl [Hp]; · iexact Hp
    isplitl [Hc]; · iexact Hc
    isplitr; · iexact HrY
    isplitr; · iexact HrS
    isplitl [HtS]; · iexact HtS
    isplitl [HtY] <;> iassumption
  iintro ⟨HcS, HO⟩
  iapply Hk
  isplitl [Hs]; · iexact Hs
  isplitl [HkS HvS]
  · isplitl [HkS]; · iexists _; iexact HkS
    isplitl [HvS]; · iexists _; iexact HvS
    isplitr <;> iassumption
  isplitl [Hfed]; · iexact Hfed
  isplitl [Hq]; · iexact Hq
  isplitl [HcS]; · iexact HcS
  iexact HO

/-! ## Collecting a head's exchange -/

set_option maxHeartbeats 800000 in
theorem settleRun (c : Dev nD) (h : Fin 8) (Kt : PUnit → sProp 𝕄) :
    iprop((invs W κ ∗ levAts L lv ∗ cred (tallyAt (ysC c h) () (NY h)) ∗ cred (tallyAt (yrC c h) () (NY h))
          ∗ atPos ER (ysC c h) 0 ∅ 0 ∗ atPos ER (yrC c h) 0 ∅ 0 ∗ owing F c 8)
        ∗ ((atPos ER (ysC c h) 1 ∅ 0 ∗ atPos ER (yrC c h) 1 ∅ 0 ∗ pts c (pHead h) (pk W c) ∗ pts c (cHead h) (pk W (yp c)) ∗ owing F c 8) -∗ Kt ⟨⟩))
      ⊢ runs c (settle h) Kt := by
  unfold owing runs
  simp only [settle, Prog.lift, Prog.bind_op, Prog.bind_ret]
  iintro ⟨⟨#HI, #Hlev, HcS, HcR, HaS, HaR, ⟨%Wt, HO⟩⟩, Hk⟩
  iapply (Rounds.wp_wait_rest_token 𝒱₀ ER (rd W) (c : Thread nD τ) none (κ := κ (ysC c h))
      (wpE_waitDma2_eq (src := cHead h) (dst := pHead h) 𝒱₀ (c : Thread nD τ) none Set.univ) (Set.mem_univ _) () (O := owe c 8) (W := Wt)
      (R := 0) (m := 0) (T := ∅)
      ((Nat.zero_add _).trans ((expect_one W c _ _ (dut_ys h)).trans (congrArg amtT (tag_ys _))).symm)) $$ [HcS HO HaS]
  · isplitr; · iapply (inv_ys W κ c h); iexact HI
    isplitl [HcS]; · iexact HcS
    isplitl [HO]; · iexact HO
    isplitr; · iapply (mayWait_owe c (.dma (ysSem h)) 8 (.inl (by rw [tag_ys]; exact Nat.zero_lt_two))); iexact Hlev
    iexact HaS
  iintro ⟨HO, HaS, -, Hpay⟩
  ihave Hp := (Entails.of_eq ((rest_one W c _ _ (dut_ys h)).trans (pay_ys W c h))) $$ Hpay
  iapply (Rounds.wp_wait_rest_token 𝒱₀ ER (rd W) (c : Thread nD τ) none (κ := κ (yrC c h))
      (wpE_waitDma2_eq (src := pHead h) (dst := cHead h) 𝒱₀ (c : Thread nD τ) none Set.univ) (Set.mem_univ _) () (O := owe c 8)
      (W := insert (SemLoc.dma (ysSem h), ()) Wt) (R := 0) (m := 0) (T := ∅)
      ((Nat.zero_add _).trans ((expect_one W c _ _ (dut_yr h)).trans (congrArg amtT (tag_yr _))).symm)) $$ [HcR HO HaR]
  · isplitr; · iapply (inv_yr W κ c h); iexact HI
    isplitl [HcR]; · iexact HcR
    isplitl [HO]; · iexact HO
    isplitr; · iapply (mayWait_owe c (.dma (yrSem h)) 8 (.inr ⟨by rw [tag_yr]; exact Nat.lt_succ_self 2, rfl⟩)); iexact Hlev
    iexact HaR
  iintro ⟨HO, HaR, -, Hpay⟩
  ihave Hc := (Entails.of_eq ((rest_one W c _ _ (dut_yr h)).trans (pay_yr W c h))) $$ Hpay
  rw [wp_ret]; imodintro
  iapply Hk
  isplitl [HaS]; · iexact HaS
  isplitl [HaR]; · iexact HaR
  isplitl [Hp]; · iexact Hp
  isplitl [Hc]; · iexact Hc
  iexists _; iexact HO

end Cert.KernelIdeal.Paged

end
-- ==== Proof.Body.lean ====
/-
  The body, run once at a symbolic device: entering, the eight heads, the eight collections, the
  merge and the exchange of the merged halves.
-/
module

public import proofs.«01_k».proof.Proof.Steps

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (W : Dev nD → Valuation τ sig (Elt F)) (κ : GSem nD τ sig → ℕ)

theorem runs_bind {α β : Type} (c : Dev nD) (p : P F α) (k : α → P F β) (Kt : β → sProp 𝕄) :
    runs c (p >>= k) Kt = runs c p fun a => runs c (k a) Kt := wp_bind ..

/-! ## Entering -/

theorem pay_barY (c : Dev nD) : payT W (yp c) (tagOf (.reg barSem)) 0 true
    = iprop((bigSep Finset.univ fun h : Fin 8 => ptsAny F c (cHead h)) ∗ bigSep Finset.univ fun h : Fin 8 => reached ER (yrC c h) 0) :=
  congrArg (fun d : Dev nD => iprop((bigSep Finset.univ fun h : Fin 8 => ptsAny F d (cHead h)) ∗ bigSep Finset.univ fun h : Fin 8 => reached ER (yrC d h) 0)) (yp_yp c)
theorem pay_barX (c : Dev nD) : payT W (xp c) (tagOf (.reg barSem)) 0 false
    = iprop(ptsAny F c (oHalf (xp c)) ∗ reached ER (xrC c) 0) :=
  congrArg (fun d : Dev nD => iprop(ptsAny F d (oHalf (xp c)) ∗ reached ER (xrC d) 0)) (xp_xp c)
theorem pay_xr' (c : Dev nD) : payT W (xp c) (tagOf (.dma xrSem)) 0 true = pts (xp c) (oHalf c) (outv W c) :=
  (pay_xr W (xp c)).trans ((congrArg (fun d : Dev nD => pts (xp c) (oHalf d) (outv W (xp c) : Vec F S16x32x128 .f32)) (xp_xp c)).trans
    (congrArg (fun f : Vec F S16x32x128 .f32 => pts (xp c) (oHalf c) f) (outv_xp W c)))

theorem bar_duty (c : Dev nD) (b : Bool) : b ∈ (rd (F := F) W).duties (barC c) 0 := by
  rw [duties_tc, show dutT (tagOf (.reg barSem)) 0 = {true, false} from rfl]; cases b <;> decide

theorem mayWait_bar (c : Dev nD) : (levAts L lv : sProp 𝕄) ⊢ MayWait (c : Thread nD τ) (.reg barSem) () (owe c 0) :=
  mayWait_owe c (.reg barSem) 0 (.inl (Nat.lt_succ_self 1))

/-- What a device hands to its two peers when it enters, and the duties it pays. -/
def greet (F : FTy → Type) [FloatOps F] (c : Dev nD) : sProp (MT nD τ sig Unit (Elt F) ℕ UU ℕ) :=
  iprop(dutyTok ER (barC (yp c)) 0 true ∗ dutyTok ER (barC (xp c)) 0 false ∗ reached ER (barC (yp c)) 0 ∗ reached ER (barC (xp c)) 0
    ∗ (bigSep Finset.univ fun h : Fin 8 => ptsAny F c (cHead h)) ∗ (bigSep Finset.univ fun h : Fin 8 => reached ER (yrC c h) 0)
    ∗ ptsAny F c (oHalf (xp c)) ∗ reached ER (xrC c) 0)
/-- What it gets from them. -/
def greeted (F : FTy → Type) [FloatOps F] (c : Dev nD) : sProp (MT nD τ sig Unit (Elt F) ℕ UU ℕ) :=
  iprop(((bigSep Finset.univ fun h : Fin 8 => ptsAny F (yp c) (cHead h)) ∗ bigSep Finset.univ fun h : Fin 8 => reached ER (yrC (yp c) h) 0)
    ∗ (ptsAny F (xp c) (oHalf c) ∗ reached ER (xrC (xp c)) 0))

theorem enterAt (c p p' : Dev nD) (hp : p = yp c) (hp' : p' = xp c) (Wt : Waits sig Unit) (Kt : PUnit → sProp 𝕄) :
    iprop((invs W κ ∗ levAts L lv ∗ greet F c ∗ cred (tallyAt (barC c) () 2) ∗ atPos ER (barC c) 0 ∅ 0 ∗ owes (c : Thread nD τ) (owe₀ c) Wt)
        ∗ ((greeted F c ∗ atPos ER (barC c) 1 ∅ 0 ∗ owing F c 0) -∗ Kt ⟨⟩))
      ⊢ runs c (.op (.semSignal (Dev.tc p) barSem ((1 : ℕ) : ℤ)) fun _ => .op (.semSignal (Dev.tc p') barSem ((1 : ℕ) : ℤ)) fun _ =>
          .op (.semWait barSem ((2 : ℕ) : ℤ)) .ret) Kt := by
  subst hp hp'
  unfold runs greet greeted owing
  iintro ⟨⟨#HI, #Hlev, ⟨HtY, HtX, #HrY, #HrX, Hc, Hrc, Ho, Hro⟩, HcB, HaB, HO⟩, Hk⟩
  iapply (Rounds.wp_signal 𝒱₀ ER (rd W) (c : Thread nD τ) none (dst := (yp c : Thread nD τ)) (sem := barSem) (r := 0) (d := true) (κ := κ (barC (yp c)))
      (bar_duty W (yp c) true) (amount_eq W _ _ _) () (owe c 0 + tallyAt (barC (xp c)) () 1) rfl) $$ [HO HtY Hc Hrc]
  · isplitr; · iapply (inv_bar W κ (yp c)); iexact HI
    isplitl [HO]; · iexact HO
    isplitl [HtY]; · iexact HtY
    isplitl [Hc Hrc]
    · rw [payload_eq, pay_barY]
      isplitl [Hc] <;> iassumption
    · iexact HrY
  iintro HO
  iapply (Rounds.wp_signal 𝒱₀ ER (rd W) (c : Thread nD τ) none (dst := (xp c : Thread nD τ)) (sem := barSem) (r := 0) (d := false) (κ := κ (barC (xp c)))
      (bar_duty W (xp c) false) (amount_eq W _ _ _) () (owe c 0) rfl) $$ [HO HtX Ho Hro]
  · isplitr; · iapply (inv_bar W κ (xp c)); iexact HI
    isplitl [HO]; · iexact HO
    isplitl [HtX]; · iexact HtX
    isplitl [Ho Hro]
    · rw [payload_eq, pay_barX]
      isplitl [Ho] <;> iassumption
    · iexact HrX
  iintro HO
  iapply (Rounds.wp_wait_rest_token 𝒱₀ ER (rd W) (c : Thread nD τ) none (κ := κ (barC c))
      (wpE_semWait_eq 𝒱₀ (c : Thread nD τ) none Set.univ) (Set.mem_univ _) () (O := owe c 0) (W := Wt) (R := 0) (m := 0) (T := ∅)
      ((Nat.zero_add 2).trans (expect_bar W c).symm)) $$ [HcB HO HaB]
  · isplitr; · iapply (inv_bar W κ c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar W c)) $$ Hpay
  rw [wp_ret]; imodintro
  iapply Hk
  isplitl [Hp]; · iexact Hp
  isplitl [HaB]; · iexact HaB
  iexists _; iexact HO

theorem enterRun (c : Dev nD) (Wt : Waits sig Unit) (Kt : PUnit → sProp 𝕄) :
    iprop((invs W κ ∗ levAts L lv ∗ greet F c ∗ cred (tallyAt (barC c) () 2) ∗ atPos ER (barC c) 0 ∅ 0 ∗ owes (c : Thread nD τ) (owe₀ c) Wt)
        ∗ ((greeted F c ∗ atPos ER (barC c) 1 ∅ 0 ∗ owing F c 0) -∗ Kt ⟨⟩))
      ⊢ runs c (enter c) Kt :=
  enterAt W κ c _ _ (dev1 c) (dev2 c) Wt Kt

theorem weightsRun (c : Dev nD) (Kt : FVec F S32x8192 .f32 → sProp 𝕄) :
    iprop(whole c cc0_stg1_0 (wv W c) ∗ (whole c cc0_stg1_0 (wv W c) -∗ Kt (wl W c))) ⊢ runs c weights Kt := by
  unfold runs wl
  show _ ⊢ wp frame (wpE (defs₀ (F := F)) 𝒱₀ (c : Thread nD τ) none) Set.univ (.op (.load wM _ _) fun w => .ret _) Kt
  iintro ⟨Hw, Hk⟩
  iapply (wp_load_rect 𝒱₀ (c : Thread nD τ) none Set.univ (m := wM) (r := Rect.unit (s := S32x8192) ![0, 0] S32x8192.size inb_S32x8192_S32x8192_0_0)
    (Finset.subset_univ _)) $$ Hw
  iintro Hw
  rw [wp_ret]; imodintro
  iapply Hk; iexact Hw

/-! ## The heads -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]
  rfl

/-- Start the next head's copies, then work on this one. -/
theorem stepRun (c : Dev nD) (n m : Fin 8) {s s' : Fin 2} {r r' k : ℕ} (e1 : slotOf n = s) (e2 : slotOf m = s') (e3 : n.val / 2 = r) (e4 : m.val / 2 = r')
    (e5 : n.val = k) {α : Type} (p : P F α) (Kt : α → sProp 𝕄) :
    iprop((invs W κ ∗ levAts L lv ∗ flying c n ∗ seat F c s r ∗ free F c s' r' ∗ feed W c m ∗ trade c n ∗ whole c cc0_stg0_0 (qv W c) ∗ owing F c k)
        ∗ ((flying c m ∗ free F c s (r + 1) ∗ seat F c s (r + 1) ∗ fed W c n ∗ cred (tallyAt (ysC c n) () (NY n))
            ∗ whole c cc0_stg0_0 (qv W c) ∗ owing F c (k + 1)) -∗ runs c p Kt))
      ⊢ runs c (issue c m >>= fun _ => compute c (wl W c) n >>= fun _ => p) Kt := by
  subst e1 e2 e3 e4 e5
  iintro ⟨⟨#HI, #Hlev, Hf, Hs, Hr, Hfd, Ht, Hq, HO⟩, Hk⟩
  rw [runs_bind]
  iapply (issueRun W κ c m)
  isplitl [Hfd Hr]
  · isplitr; · iexact HI
    isplitl [Hfd] <;> iassumption
  iintro Hf'
  rw [runs_bind]
  iapply (computeRun W κ c n)
  isplitl [Hf Hs Hq Ht HO]
  · isplitr; · iexact HI
    isplitr; · iexact Hlev
    isplitl [Hf]; · iexact Hf
    isplitl [Hs]; · iexact Hs
    isplitl [Hq]; · iexact Hq
    isplitl [Ht] <;> iassumption
  iintro ⟨Hs, Hr, Hfed, Hq, Hc, HO⟩
  iapply Hk
  isplitl [Hf']; · iexact Hf'
  isplitl [Hr]; · iexact Hr
  isplitl [Hs]; · iexact Hs
  isplitl [Hfed]; · iexact Hfed
  isplitl [Hc]; · iexact Hc
  isplitl [Hq] <;> iassumption

/-- The first head's copies. -/
theorem firstRun (c : Dev nD) (m : Fin 8) {s' : Fin 2} {r' : ℕ} (e2 : slotOf m = s') (e4 : m.val / 2 = r') {α : Type} (p : P F α) (Kt : α → sProp 𝕄) :
    iprop((invs W κ ∗ feed W c m ∗ free F c s' r') ∗ (flying c m -∗ runs c p Kt)) ⊢ runs c (issue c m >>= fun _ => p) Kt := by
  subst e2 e4
  rw [runs_bind]
  exact issueRun W κ c m fun _ => runs c p Kt

/-- The last head. -/
theorem lastRun (c : Dev nD) (n : Fin 8) {s : Fin 2} {r k : ℕ} (e1 : slotOf n = s) (e3 : n.val / 2 = r) (e5 : n.val = k) (Kt : PUnit → sProp 𝕄) :
    iprop((invs W κ ∗ levAts L lv ∗ flying c n ∗ seat F c s r ∗ whole c cc0_stg0_0 (qv W c) ∗ trade c n ∗ owing F c k)
        ∗ ((seat F c s (r + 1) ∗ free F c s (r + 1) ∗ fed W c n ∗ whole c cc0_stg0_0 (qv W c)
            ∗ cred (tallyAt (ysC c n) () (NY n)) ∗ owing F c (k + 1)) -∗ Kt ⟨⟩))
      ⊢ runs c (compute c (wl W c) n) Kt := by
  subst e1 e3 e5
  exact computeRun W κ c n Kt

theorem headsRun (c : Dev nD) (Kt : PUnit → sProp 𝕄) :
    iprop((invs W κ ∗ levAts L lv ∗ (bigSep Finset.univ fun h => feed W c h) ∗ (bigSep Finset.univ fun h => trade c h)
          ∗ (free F c 0 0 ∗ free F c 1 0) ∗ (seat F c 0 0 ∗ seat F c 1 0) ∗ whole c cc0_stg0_0 (qv W c) ∗ owing F c 0)
        ∗ (((free F c 0 4 ∗ free F c 1 4) ∗ (seat F c 0 4 ∗ seat F c 1 4) ∗ (bigSep Finset.univ fun h => fed W c h)
            ∗ (bigSep Finset.univ fun h => cred (tallyAt (ysC c h) () (NY h))) ∗ whole c cc0_stg0_0 (qv W c) ∗ owing F c 8) -∗ Kt ⟨⟩))
      ⊢ runs c (heads c (wl W c)) Kt := by
  unfold heads
  rw [bigSep_fin8, bigSep_fin8, bigSep_fin8, bigSep_fin8]
  iintro ⟨⟨#HI, #Hlev, ⟨F0, F1, F2, F3, F4, F5, F6, F7⟩, ⟨T0, T1, T2, T3, T4, T5, T6, T7⟩, ⟨R0, R1⟩, ⟨S0, S1⟩, Hq, HO⟩, Hk⟩
  iapply (firstRun W κ c 0 (s' := 0) (r' := 0) rfl rfl)
  isplitl [F0 R0]
  · isplitr; · iexact HI
    isplitl [F0] <;> iassumption
  iintro Hf
  iapply (stepRun W κ c 0 1 (s := 0) (s' := 1) (r := 0) (r' := 0) (k := 0) rfl rfl rfl rfl rfl)
  isplitl [Hf S0 R1 F1 T0 Hq HO]
  · isplitr; · iexact HI
    isplitr; · iexact Hlev
    isplitl [Hf]; · iexact Hf
    isplitl [S0]; · iexact S0
    isplitl [R1]; · iexact R1
    isplitl [F1]; · iexact F1
    isplitl [T0]; · iexact T0
    isplitl [Hq] <;> iassumption
  iintro ⟨Hf, R0, S0, D0, C0, Hq, HO⟩
  iapply (stepRun W κ c 1 2 (s := 1) (s' := 0) (r := 0) (r' := 1) (k := 1) rfl rfl rfl rfl rfl)
  isplitl [Hf S1 R0 F2 T1 Hq HO]
  · isplitr; · iexact HI
    isplitr; · iexact Hlev
    isplitl [Hf]; · iexact Hf
    isplitl [S1]; · iexact S1
    isplitl [R0]; · iexact R0
    isplitl [F2]; · iexact F2
    isplitl [T1]; · iexact T1
    isplitl [Hq] <;> iassumption
  iintro ⟨Hf, R1, S1, D1, C1, Hq, HO⟩
  iapply (stepRun W κ c 2 3 (s := 0) (s' := 1) (r := 1) (r' := 1) (k := 2) rfl rfl rfl rfl rfl)
  isplitl [Hf S0 R1 F3 T2 Hq HO]
  · isplitr; · iexact HI
    isplitr; · iexact Hlev
    isplitl [Hf]; · iexact Hf
    isplitl [S0]; · iexact S0
    isplitl [R1]; · iexact R1
    isplitl [F3]; · iexact F3
    isplitl [T2]; · iexact T2
    isplitl [Hq] <;> iassumption
  iintro ⟨Hf, R0, S0, D2, C2, Hq, HO⟩
  iapply (stepRun W κ c 3 4 (s := 1) (s' := 0) (r := 1) (r' := 2) (k := 3) rfl rfl rfl rfl rfl)
  isplitl [Hf S1 R0 F4 T3 Hq HO]
  · isplitr; · iexact HI
    isplitr; · iexact Hlev
    isplitl [Hf]; · iexact Hf
    isplitl [S1]; · iexact S1
    isplitl [R0]; · iexact R0
    isplitl [F4]; · iexact F4
    isplitl [T3]; · iexact T3
    isplitl [Hq] <;> iassumption
  iintro ⟨Hf, R1, S1, D3, C3, Hq, HO⟩
  iapply (stepRun W κ c 4 5 (s := 0) (s' := 1) (r := 2) (r' := 2) (k := 4) rfl rfl rfl rfl rfl)
  isplitl [Hf S0 R1 F5 T4 Hq HO]
  · isplitr; · iexact HI
    isplitr; · iexact Hlev
    isplitl [Hf]; · iexact Hf
    isplitl [S0]; · iexact S0
    isplitl [R1]; · iexact R1
    isplitl [F5]; · iexact F5
    isplitl [T4]; · iexact T4
    isplitl [Hq] <;> iassumption
  iintro ⟨Hf, R0, S0, D4, C4, Hq, HO⟩
  iapply (stepRun W κ c 5 6 (s := 1) (s' := 0) (r := 2) (r' := 3) (k := 5) rfl rfl rfl rfl rfl)
  isplitl [Hf S1 R0 F6 T5 Hq HO]
  · isplitr; · iexact HI
    isplitr; · iexact Hlev
    isplitl [Hf]; · iexact Hf
    isplitl [S1]; · iexact S1
    isplitl [R0]; · iexact R0
    isplitl [F6]; · iexact F6
    isplitl [T5]; · iexact T5
    isplitl [Hq] <;> iassumption
  iintro ⟨Hf, R1, S1, D5, C5, Hq, HO⟩
  iapply (stepRun W κ c 6 7 (s := 0) (s' := 1) (r := 3) (r' := 3) (k := 6) rfl rfl rfl rfl rfl)
  isplitl [Hf S0 R1 F7 T6 Hq HO]
  · isplitr; · iexact HI
    isplitr; · iexact Hlev
    isplitl [Hf]; · iexact Hf
    isplitl [S0]; · iexact S0
    isplitl [R1]; · iexact R1
    isplitl [F7]; · iexact F7
    isplitl [T6]; · iexact T6
    isplitl [Hq] <;> iassumption
  iintro ⟨Hf, R0, S0, D6, C6, Hq, HO⟩
  iapply (lastRun W κ c 7 (s := 1) (r := 3) (k := 7) rfl rfl rfl)
  isplitl [Hf S1 Hq T7 HO]
  · isplitr; · iexact HI
    isplitr; · iexact Hlev
    isplitl [Hf]; · iexact Hf
    isplitl [S1]; · iexact S1
    isplitl [Hq]; · iexact Hq
    isplitl [T7] <;> iassumption
  iintro ⟨S1, R1, D7, Hq, C7, HO⟩
  iapply Hk
  isplitl [R0 R1]; · isplitl [R0] <;> iassumption
  isplitl [S0 S1]; · isplitl [S0] <;> iassumption
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [Hq] <;> iassumption

/-! ## The collections -/

/-- What collecting a head's exchange takes, and what it gives. -/
def toSettle (F : FTy → Type) [FloatOps F] (c : Dev nD) (h : Fin 8) : sProp (MT nD τ sig Unit (Elt F) ℕ UU ℕ) :=
  iprop(cred (tallyAt (ysC c h) () (NY h)) ∗ cred (tallyAt (yrC c h) () (NY h)) ∗ atPos ER (ysC c h) 0 ∅ 0 ∗ atPos ER (yrC c h) 0 ∅ 0)
def settled (c : Dev nD) (h : Fin 8) : sProp 𝕄 :=
  iprop(atPos ER (ysC c h) 1 ∅ 0 ∗ atPos ER (yrC c h) 1 ∅ 0 ∗ pts c (pHead h) (pk W c) ∗ pts c (cHead h) (pk W (yp c)))

theorem settleStep (c : Dev nD) (h : Fin 8) {α : Type} (p : P F α) (Kt : α → sProp 𝕄) :
    iprop((invs W κ ∗ levAts L lv ∗ toSettle F c h ∗ owing F c 8) ∗ ((settled W c h ∗ owing F c 8) -∗ runs c p Kt))
      ⊢ runs c (settle h >>= fun _ => p) Kt := by
  unfold toSettle settled
  rw [runs_bind]
  iintro ⟨⟨#HI, #Hlev, ⟨H1, H2, H3, H4⟩, HO⟩, Hk⟩
  iapply (settleRun W κ c h)
  isplitl [H1 H2 H3 H4 HO]
  · isplitr; · iexact HI
    isplitr; · iexact Hlev
    isplitl [H1]; · iexact H1
    isplitl [H2]; · iexact H2
    isplitl [H3]; · iexact H3
    isplitl [H4] <;> iassumption
  iintro ⟨H1, H2, H3, H4, HO⟩
  iapply Hk
  isplitr [HO]
  · isplitl [H1]; · iexact H1
    isplitl [H2]; · iexact H2
    isplitl [H3] <;> iassumption
  iexact HO

theorem settlesRun (c : Dev nD) {α : Type} (p : P F α) (Kt : α → sProp 𝕄) :
    iprop((invs W κ ∗ levAts L lv ∗ (bigSep Finset.univ fun h => toSettle F c h) ∗ owing F c 8)
        ∗ (((bigSep Finset.univ fun h => settled W c h) ∗ owing F c 8) -∗ runs c p Kt))
      ⊢ runs c (settles >>= fun _ => p) Kt := by
  have e : (settles >>= fun _ => p : P F α) = (settle 0 >>= fun _ => settle 1 >>= fun _ => settle 2 >>= fun _ => settle 3 >>= fun _ => settle 4 >>= fun _ =>
      settle 5 >>= fun _ => settle 6 >>= fun _ => settle 7 >>= fun _ => p) := rfl
  rw [e, bigSep_fin8, bigSep_fin8]
  iintro ⟨⟨#HI, #Hlev, ⟨T0, T1, T2, T3, T4, T5, T6, T7⟩, HO⟩, Hk⟩
  iapply (settleStep W κ c 0)
  isplitl [T0 HO]
  · isplitr; · iexact HI
    isplitr; · iexact Hlev
    isplitl [T0] <;> iassumption
  iintro ⟨D0, HO⟩
  iapply (settleStep W κ c 1)
  isplitl [T1 HO]
  · isplitr; · iexact HI
    isplitr; · iexact Hlev
    isplitl [T1] <;> iassumption
  iintro ⟨D1, HO⟩
  iapply (settleStep W κ c 2)
  isplitl [T2 HO]
  · isplitr; · iexact HI
    isplitr; · iexact Hlev
    isplitl [T2] <;> iassumption
  iintro ⟨D2, HO⟩
  iapply (settleStep W κ c 3)
  isplitl [T3 HO]
  · isplitr; · iexact HI
    isplitr; · iexact Hlev
    isplitl [T3] <;> iassumption
  iintro ⟨D3, HO⟩
  iapply (settleStep W κ c 4)
  isplitl [T4 HO]
  · isplitr; · iexact HI
    isplitr; · iexact Hlev
    isplitl [T4] <;> iassumption
  iintro ⟨D4, HO⟩
  iapply (settleStep W κ c 5)
  isplitl [T5 HO]
  · isplitr; · iexact HI
    isplitr; · iexact Hlev
    isplitl [T5] <;> iassumption
  iintro ⟨D5, HO⟩
  iapply (settleStep W κ c 6)
  isplitl [T6 HO]
  · isplitr; · iexact HI
    isplitr; · iexact Hlev
    isplitl [T6] <;> iassumption
  iintro ⟨D6, HO⟩
  iapply (settleStep W κ c 7)
  isplitl [T7 HO]
  · isplitr; · iexact HI
    isplitr; · iexact Hlev
    isplitl [T7] <;> iassumption
  iintro ⟨D7, HO⟩
  iapply Hk
  isplitr [HO]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iexact HO

end Cert.KernelIdeal.Paged

end
-- ==== Proof.Merge.lean ====
/-
  The merge and the exchange of the halves, and how the buffers are cut into the pieces that the
  protocol passes around.
-/
module

public import proofs.«01_k».proof.Proof.Body
public import Idealize.ShloMosaic.Lib.Ring

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (W : Dev nD → Valuation τ sig (Elt F)) (κ : GSem nD τ sig → ℕ)

/-! ## The merge -/

/-- The exchange of the merged halves with device `p`. -/
def swap (c p : Dev nD) : P F PUnit := do
  Prog.lift (.enqueueDma (oHalf c) (.remote (Dev.tc p) (oHalf c) (.dma xsSem)) (.dma xrSem) (View.wordExact_bits rfl) (View.wordExact_bits rfl) ⟨⟨rfl, Or.inl rfl⟩, trivial⟩)
  Prog.lift (.waitDma2 xsSem (oHalf c) (oHalf c) (View.wordExact_bits rfl) (View.wordExact_bits rfl))
  Prog.lift (.waitDma2 xrSem (oHalf c) (oHalf c) (View.wordExact_bits rfl) (View.wordExact_bits rfl))
/-- The loads of the six parts. -/
def gather : P F (Vec F S8x1x32x128 .f32 × Vec F S8x1x32x128 .f32 × Vec F S8x1x32x128 .f32 × Vec F S8x1x32x128 .f32 × Vec F S8x1x32x128 .f32 × Vec F S8x1x32x128 .f32) := do
  let m₀ : Vec F S8x1x32x128 .f32 ← partAll pB 1 (all_inb 1)
  let m₁ : Vec F S8x1x32x128 .f32 ← partAll cB 1 (all_inb 1)
  let l₀ : Vec F S8x1x32x128 .f32 ← partAll pB 2 (all_inb 2)
  let l₁ : Vec F S8x1x32x128 .f32 ← partAll cB 2 (all_inb 2)
  let a₀ : Vec F S8x1x32x128 .f32 ← partAll pB 0 (all_inb 0)
  let a₁ : Vec F S8x1x32x128 .f32 ← partAll cB 0 (all_inb 0)
  .ret (m₀, m₁, l₀, l₁, a₀, a₁)
/-- The store of the merged half. -/
def lay (c : Dev nD) (x : FVec F S8x32x128 .f32) : P F PUnit := do
  let _ : Vec F S8x32x128 .f32 ← Prog.lift (.load oM (mergeRect c).toLoadRect (View.loadsAt_vmem h_S8x32x128))
  Prog.lift (.store oM (mergeRect c) x Finset.univ (View.stores_vmem_bits_univ h_S8x32x128 rfl) (.inl rfl))

theorem merge_eq (c : Dev nD) : merge (F := F) c = (gather >>= fun x => lay c (merged x.1 x.2.1 x.2.2.1 x.2.2.2.1 x.2.2.2.2.1 x.2.2.2.2.2) >>= fun _ =>
    swap c (⟨k0_dev11 c, k0_dev11_lt c⟩ : Dev nD)) := rfl

theorem gatherRun (c : Dev nD) (f g : Vec F S8x3x32x128 .f32) (Kt : _ → sProp 𝕄) :
    iprop((whole c cc0_scratch2 f ∗ whole c cc0_scratch3 g)
        ∗ ((whole c cc0_scratch2 f ∗ whole c cc0_scratch3 g) -∗ Kt (pl f 1, cl g 1, pl f 2, cl g 2, pl f 0, cl g 0)))
      ⊢ runs c gather Kt := by
  unfold runs pl cl
  simp only [gather, partAll, Prog.lift, Prog.bind_op, Prog.bind_ret]
  iintro ⟨⟨Hp, Hc⟩, Hk⟩
  iapply (wp_load_rect 𝒱₀ (c : Thread nD τ) none Set.univ (m := pB) (r := allRect 1) (Finset.subset_univ _)) $$ Hp
  iintro Hp
  iapply (wp_load_rect 𝒱₀ (c : Thread nD τ) none Set.univ (m := cB) (r := allRect 1) (Finset.subset_univ _)) $$ Hc
  iintro Hc
  iapply (wp_load_rect 𝒱₀ (c : Thread nD τ) none Set.univ (m := pB) (r := allRect 2) (Finset.subset_univ _)) $$ Hp
  iintro Hp
  iapply (wp_load_rect 𝒱₀ (c : Thread nD τ) none Set.univ (m := cB) (r := allRect 2) (Finset.subset_univ _)) $$ Hc
  iintro Hc
  iapply (wp_load_rect 𝒱₀ (c : Thread nD τ) none Set.univ (m := pB) (r := allRect 0) (Finset.subset_univ _)) $$ Hp
  iintro Hp
  iapply (wp_load_rect 𝒱₀ (c : Thread nD τ) none Set.univ (m := cB) (r := allRect 0) (Finset.subset_univ _)) $$ Hc
  iintro Hc
  rw [wp_ret]; imodintro
  iapply Hk
  isplitl [Hp] <;> iassumption

theorem layRun (c : Dev nD) (Kt : PUnit → sProp 𝕄) :
    iprop(ptsAny F c (oHalf c) ∗ (pts c (oHalf c) (outv W c) -∗ Kt ⟨⟩)) ⊢ runs c (lay c (half W c)) Kt := by
  unfold runs
  simp only [lay, Prog.lift, Prog.bind_op, Prog.bind_ret]
  iintro ⟨⟨%f, Ho⟩, Hk⟩
  iapply (wp_load_rect 𝒱₀ (c : Thread nD τ) none Set.univ (m := oM) (r := mergeRect c) (oRect_set c).subset) $$ Ho
  iintro Ho
  iapply (wp_store 𝒱₀ (c : Thread nD τ) none Set.univ (m := oM) (r := mergeRect c) (oRect_set c).subset) $$ Ho
  iintro Ho
  ihave Ho := (Entails.of_eq (pointsTo_congr (merged_stored W c f))) $$ Ho
  rw [wp_ret]; imodintro
  iapply Hk; iexact Ho

theorem swapRun (c p : Dev nD) (hp : p = xp c) (Kt : PUnit → sProp 𝕄) :
    iprop((invs W κ ∗ pts c (oHalf c) (outv W c) ∗ ptsAny F (xp c) (oHalf c) ∗ reached ER (xrC (xp c)) 0 ∗ reached ER (xsC c) 0
          ∗ dutyTok ER (xsC c) 0 true ∗ dutyTok ER (xrC (xp c)) 0 true ∗ cred (tallyAt (xrC c) () NX)
          ∗ atPos ER (xsC c) 0 ∅ 0 ∗ atPos ER (xrC c) 0 ∅ 0 ∗ owing F c 8)
        ∗ ((atPos ER (xsC c) 1 ∅ 0 ∗ atPos ER (xrC c) 1 ∅ 0 ∗ pts c (oHalf c) (outv W c) ∗ pts c (oHalf (xp c)) (outv W c)
            ∗ ∃ Wt, owes (c : Thread nD τ) (0 : CellTallies nD τ sig Unit) Wt) -∗ Kt ⟨⟩))
      ⊢ runs c (swap c p) Kt := by
  subst hp
  unfold runs owing
  simp only [swap, Prog.lift, Prog.bind_op, Prog.bind_ret]
  iintro ⟨⟨#HI, Ho, ⟨%fx, Hx⟩, #HrX, #HrS, HtS, HtX, HcR, HaS, HaR, ⟨%Wt, HO⟩⟩, Hk⟩
  iapply (Rounds.wp_send_pointsTo 𝒱₀ ER (rd W) (c : Thread nD τ) none (c' := (xp c : Thread nD τ)) (src := oHalf c) (dst := oHalf c)
      (sS := .dma xsSem) (sem := .dma xrSem) (q := fullShare) (fs := outv W c) (κ₁ := κ (xsC c)) (κ₂ := κ (xrC (xp c)))
      (r₁ := 0) (r₂ := 0) (d₁ := true) (d₂ := true) (fd := fx)
      (duty_mem W c _ _ dut_xs) (duty_mem W (xp c) _ _ dut_xr) () () NX rfl
      (by rw [amount_eq]; dsimp only; rw [tag_xs]; rfl) (by rw [amount_eq]; dsimp only; rw [tag_xr]; rfl)
      0 (owe_last c) (W := Wt)
      (by rw [payload_eq, pay_xs])
      (by rw [payload_eq, pay_xr', pointsTo_congr (sent_x W c fx)])) $$ [Ho Hx HO HtS HtX]
  · isplitr; · iapply (inv_xs W κ c); iexact HI
    isplitr; · iapply (inv_xr W κ (xp c)); iexact HI
    isplitl [Ho]; · iexact Ho
    isplitl [Hx]; · iexact Hx
    isplitl [HO]; · iexact HO
    isplitl [HtS]; · iexact HtS
    isplitr; · iexact HrS
    isplitl [HtX]; · iexact HtX
    iexact HrX
  iintro ⟨HcS, HO⟩
  iapply (Rounds.wp_wait_rest_token 𝒱₀ ER (rd W) (c : Thread nD τ) none (κ := κ (xsC c))
      (wpE_waitDma2_eq (src := oHalf c) (dst := oHalf c) 𝒱₀ (c : Thread nD τ) none Set.univ) (Set.mem_univ _) () (O := 0) (W := Wt)
      (R := 0) (m := 0) (T := ∅)
      ((Nat.zero_add _).trans ((expect_one W c _ _ dut_xs).trans (congrArg amtT tag_xs)).symm)) $$ [HcS HO HaS]
  · isplitr; · iapply (inv_xs W κ c); iexact HI
    isplitl [HcS]; · iexact HcS
    isplitl [HO]; · iexact HO
    isplitr; · rw [MayWait_zero]; iempintro
    iexact HaS
  iintro ⟨HO, HaS, -, Hpay⟩
  ihave Ho := (Entails.of_eq ((rest_one W c _ _ dut_xs).trans (pay_xs W c))) $$ Hpay
  iapply (Rounds.wp_wait_rest_token 𝒱₀ ER (rd W) (c : Thread nD τ) none (κ := κ (xrC c))
      (wpE_waitDma2_eq (src := oHalf c) (dst := oHalf c) 𝒱₀ (c : Thread nD τ) none Set.univ) (Set.mem_univ _) () (O := 0)
      (W := insert (SemLoc.dma xsSem, ()) Wt) (R := 0) (m := 0) (T := ∅)
      ((Nat.zero_add _).trans ((expect_one W c _ _ dut_xr).trans (congrArg amtT tag_xr)).symm)) $$ [HcR HO HaR]
  · isplitr; · iapply (inv_xr W κ c); iexact HI
    isplitl [HcR]; · iexact HcR
    isplitl [HO]; · iexact HO
    isplitr; · rw [MayWait_zero]; iempintro
    iexact HaR
  iintro ⟨HO, HaR, -, Hpay⟩
  ihave Hx := (Entails.of_eq ((rest_one W c _ _ dut_xr).trans (pay_xr W c))) $$ Hpay
  rw [wp_ret]; imodintro
  iapply Hk
  isplitl [HaS]; · iexact HaS
  isplitl [HaR]; · iexact HaR
  isplitl [Ho]; · iexact Ho
  isplitl [Hx]; · iexact Hx
  iexists _; iexact HO

/-- What the exchange along `x` takes beside the output and the debt. -/
def swapPre (F : FTy → Type) [FloatOps F] (c : Dev nD) : sProp (MT nD τ sig Unit (Elt F) ℕ UU ℕ) :=
  iprop((ptsAny F (xp c) (oHalf c) ∗ reached ER (xrC (xp c)) 0) ∗ reached ER (xsC c) 0
    ∗ (dutyTok ER (xsC c) 0 true ∗ dutyTok ER (xrC (xp c)) 0 true) ∗ cred (tallyAt (xrC c) () NX) ∗ (atPos ER (xsC c) 0 ∅ 0 ∗ atPos ER (xrC c) 0 ∅ 0))

theorem mergeRun (c : Dev nD) (Kt : PUnit → sProp 𝕄) :
    iprop((invs W κ ∗ (whole c cc0_scratch2 (pk W c) ∗ whole c cc0_scratch3 (pk W (yp c))) ∗ ptsAny F c (oHalf c) ∗ swapPre F c ∗ owing F c 8)
        ∗ (((whole c cc0_scratch2 (pk W c) ∗ whole c cc0_scratch3 (pk W (yp c))) ∗ (atPos ER (xsC c) 1 ∅ 0 ∗ atPos ER (xrC c) 1 ∅ 0)
            ∗ (pts c (oHalf c) (outv W c) ∗ pts c (oHalf (xp c)) (outv W c))
            ∗ ∃ Wt, owes (c : Thread nD τ) (0 : CellTallies nD τ sig Unit) Wt) -∗ Kt ⟨⟩))
      ⊢ runs c (merge c) Kt := by
  unfold swapPre
  rw [merge_eq]
  iintro ⟨⟨#HI, Hb, Ho, ⟨⟨Hx, #HrX⟩, #HrS, ⟨HtS, HtX⟩, HcR, ⟨HaS, HaR⟩⟩, HO⟩, Hk⟩
  rw [runs_bind]
  iapply (gatherRun c (pk W c) (pk W (yp c)))
  isplitl [Hb]; · iexact Hb
  iintro Hb
  rw [runs_bind]
  iapply (layRun W c)
  isplitl [Ho]; · iexact Ho
  iintro Ho
  iapply (swapRun W κ c _ (dev11 c))
  isplitl [Ho Hx HtS HtX HcR HaS HaR HO]
  · isplitr; · iexact HI
    isplitl [Ho]; · iexact Ho
    isplitl [Hx]; · iexact Hx
    isplitr; · iexact HrX
    isplitr; · iexact HrS
    isplitl [HtS]; · iexact HtS
    isplitl [HtX]; · iexact HtX
    isplitl [HcR]; · iexact HcR
    isplitl [HaS]; · iexact HaS
    isplitl [HaR] <;> iassumption
  iintro ⟨HaS, HaR, Ho, Hx, HO⟩
  iapply Hk
  isplitl [Hb]; · iexact Hb
  isplitl [HaS HaR]; · isplitl [HaS] <;> iassumption
  isplitl [Ho Hx]; · isplitl [Ho] <;> iassumption
  iexact HO

/-! ## Cutting the buffers -/

theorem kSlots_disj : ∀ s s' : Fin 2, s ≠ s' → Disjoint ((kSlot s).view.set : Finset S2x8192x128.Idx) (kSlot s').view.set := fun s s' h =>
  Finset.disjoint_left.mpr fun i h1 h2 => h (((mem_kSlot s i).mp h1).symm.trans ((mem_kSlot s' i).mp h2))
theorem kSlots_cover : (Finset.univ.biUnion (fun s : Fin 2 => ((kSlot s).view.set : Finset S2x8192x128.Idx)) : Finset S2x8192x128.Idx) = Finset.univ :=
  Finset.eq_univ_iff_forall.mpr fun i => Finset.mem_biUnion.mpr ⟨i 0, Finset.mem_univ _, (mem_kSlot _ i).mpr rfl⟩
theorem vSlots_disj : ∀ s s' : Fin 2, s ≠ s' → Disjoint ((vSlot s).view.set : Finset S2x8192x128.Idx) (vSlot s').view.set := fun s s' h =>
  Finset.disjoint_left.mpr fun i h1 h2 => h (((mem_vSlot s i).mp h1).symm.trans ((mem_vSlot s' i).mp h2))
theorem vSlots_cover : (Finset.univ.biUnion (fun s : Fin 2 => ((vSlot s).view.set : Finset S2x8192x128.Idx)) : Finset S2x8192x128.Idx) = Finset.univ :=
  Finset.eq_univ_iff_forall.mpr fun i => Finset.mem_biUnion.mpr ⟨i 0, Finset.mem_univ _, (mem_vSlot _ i).mpr rfl⟩
theorem pHeads_disj : ∀ h h' : Fin 8, h ≠ h' → Disjoint ((pHead h).view.set : Finset S8x3x32x128.Idx) (pHead h').view.set := fun s s' h =>
  Finset.disjoint_left.mpr fun i h1 h2 => h (((mem_pHead s i).mp h1).symm.trans ((mem_pHead s' i).mp h2))
theorem pHeads_cover : (Finset.univ.biUnion (fun h : Fin 8 => ((pHead h).view.set : Finset S8x3x32x128.Idx)) : Finset S8x3x32x128.Idx) = Finset.univ :=
  Finset.eq_univ_iff_forall.mpr fun i => Finset.mem_biUnion.mpr ⟨i 0, Finset.mem_univ _, (mem_pHead _ i).mpr rfl⟩
theorem cHeads_disj : ∀ h h' : Fin 8, h ≠ h' → Disjoint ((cHead h).view.set : Finset S8x3x32x128.Idx) (cHead h').view.set := fun s s' h =>
  Finset.disjoint_left.mpr fun i h1 h2 => h (((mem_cHead s i).mp h1).symm.trans ((mem_cHead s' i).mp h2))
theorem cHeads_cover : (Finset.univ.biUnion (fun h : Fin 8 => ((cHead h).view.set : Finset S8x3x32x128.Idx)) : Finset S8x3x32x128.Idx) = Finset.univ :=
  Finset.eq_univ_iff_forall.mpr fun i => Finset.mem_biUnion.mpr ⟨i 0, Finset.mem_univ _, (mem_cHead _ i).mpr rfl⟩

theorem headOf_inj (c : Dev nD) {h h' : Fin 8} (e : headOf c h = headOf c h') : h = h' := Fin.ext (by
  have : 8 * (c.val / 2) + h.val = 8 * (c.val / 2) + h'.val := congrArg Fin.val e
  omega)
theorem kHeads_disj (c : Dev nD) : ∀ h h' : Fin 8, h ≠ h' → Disjoint ((kHead c h).view.set : Finset S8192x16x128.Idx) (kHead c h').view.set := fun s s' h =>
  Finset.disjoint_left.mpr fun i h1 h2 => h (headOf_inj c (((mem_kHead c s i).mp h1).symm.trans ((mem_kHead c s' i).mp h2)))
theorem vHeads_disj (c : Dev nD) : ∀ h h' : Fin 8, h ≠ h' → Disjoint ((vHead c h).view.set : Finset S8192x16x128.Idx) (vHead c h').view.set := fun s s' h =>
  Finset.disjoint_left.mpr fun i h1 h2 => h (headOf_inj c (((mem_vHead c s i).mp h1).symm.trans ((mem_vHead c s' i).mp h2)))

/-- The keys (the values) a device works on. -/
abbrev ownK (c : Dev nD) : Finset S8192x16x128.Idx := Finset.univ.biUnion fun h : Fin 8 => ((kHead c h).view.set : Finset S8192x16x128.Idx)
abbrev ownV (c : Dev nD) : Finset S8192x16x128.Idx := Finset.univ.biUnion fun h : Fin 8 => ((vHead c h).view.set : Finset S8192x16x128.Idx)

/-- The keys (values) a device does not work on. -/
abbrev restK (c : Dev nD) (f : Vec F S8192x16x128 .f32) : sProp (MT nD τ sig Unit (Elt F) ℕ UU ℕ) :=
  (c : Thread nD τ).loc main_v39 ↦[Finset.univ \ ownK c]{fullShare} f
abbrev restV (c : Dev nD) (f : Vec F S8192x16x128 .f32) : sProp (MT nD τ sig Unit (Elt F) ℕ UU ℕ) :=
  (c : Thread nD τ).loc main_v40 ↦[Finset.univ \ ownV c]{fullShare} f

theorem cutK (c : Dev nD) (f : Vec F S8192x16x128 .f32) :
    whole c main_v39 f ⊣⊢ (iprop((bigSep Finset.univ fun h : Fin 8 => pts c (kHead c h) f) ∗ restK c f) : sProp 𝕄) := by
  refine (pointsTo_split_subset (Finset.subset_univ (ownK c))).trans ?_
  rw [Ring.pointsTo_sub_blocks (ℓ := (c : Thread nD τ).loc main_v39) (fun h : Fin 8 => ((kHead c h).view.set : Finset S8192x16x128.Idx)) (kHeads_disj c) (ownK c) rfl f]

theorem cutV (c : Dev nD) (f : Vec F S8192x16x128 .f32) :
    whole c main_v40 f ⊣⊢ (iprop((bigSep Finset.univ fun h : Fin 8 => pts c (vHead c h) f) ∗ restV c f) : sProp 𝕄) := by
  refine (pointsTo_split_subset (Finset.subset_univ (ownV c))).trans ?_
  rw [Ring.pointsTo_sub_blocks (ℓ := (c : Thread nD τ).loc main_v40) (fun h : Fin 8 => ((vHead c h).view.set : Finset S8192x16x128.Idx)) (vHeads_disj c) (ownV c) rfl f]

theorem cutKS (c : Dev nD) (f : Vec F S2x8192x128 .f32) : whole c cc0_scratch0 f ⊢ (iprop(ptsAny F c (kSlot 0) ∗ ptsAny F c (kSlot 1)) : sProp 𝕄) := by
  rw [whole, Ring.pointsTo_blocks (ℓ := (c : Thread nD τ).loc cc0_scratch0) (fun s : Fin 2 => ((kSlot s).view.set : Finset S2x8192x128.Idx)) kSlots_disj kSlots_cover f, BI.bigSep_fin_two]
  show (iprop(pts c (kSlot 0) f ∗ pts c (kSlot 1) f) : sProp 𝕄) ⊢ _
  iintro ⟨H0, H1⟩
  isplitl [H0]; · iexists f; iexact H0
  iexists f; iexact H1
theorem joinKS (c : Dev nD) (f₀ : Vec F S2x8192x128 .f32) : (iprop(ptsAny F c (kSlot 0) ∗ ptsAny F c (kSlot 1)) : sProp 𝕄) ⊢ iprop(∃ f, whole c cc0_scratch0 f) := by
  refine Entails.trans (Entails.of_eq ?_) (Ring.pointsTo_blocks_join_exists (ℓ := (c : Thread nD τ).loc cc0_scratch0) (fun s : Fin 2 => ((kSlot s).view.set : Finset S2x8192x128.Idx)) kSlots_disj kSlots_cover f₀)
  rw [BI.bigSep_fin_two]; rfl
theorem cutVS (c : Dev nD) (f : Vec F S2x8192x128 .f32) : whole c cc0_scratch1 f ⊢ (iprop(ptsAny F c (vSlot 0) ∗ ptsAny F c (vSlot 1)) : sProp 𝕄) := by
  rw [whole, Ring.pointsTo_blocks (ℓ := (c : Thread nD τ).loc cc0_scratch1) (fun s : Fin 2 => ((vSlot s).view.set : Finset S2x8192x128.Idx)) vSlots_disj vSlots_cover f, BI.bigSep_fin_two]
  show (iprop(pts c (vSlot 0) f ∗ pts c (vSlot 1) f) : sProp 𝕄) ⊢ _
  iintro ⟨H0, H1⟩
  isplitl [H0]; · iexists f; iexact H0
  iexists f; iexact H1
theorem joinVS (c : Dev nD) (f₀ : Vec F S2x8192x128 .f32) : (iprop(ptsAny F c (vSlot 0) ∗ ptsAny F c (vSlot 1)) : sProp 𝕄) ⊢ iprop(∃ f, whole c cc0_scratch1 f) := by
  refine Entails.trans (Entails.of_eq ?_) (Ring.pointsTo_blocks_join_exists (ℓ := (c : Thread nD τ).loc cc0_scratch1) (fun s : Fin 2 => ((vSlot s).view.set : Finset S2x8192x128.Idx)) vSlots_disj vSlots_cover f₀)
  rw [BI.bigSep_fin_two]; rfl

theorem cutP (c : Dev nD) (f : Vec F S8x3x32x128 .f32) : (whole c cc0_scratch2 f : sProp 𝕄) = bigSep Finset.univ fun h : Fin 8 => pts c (pHead h) f :=
  Ring.pointsTo_blocks (ℓ := (c : Thread nD τ).loc cc0_scratch2) (fun h : Fin 8 => ((pHead h).view.set : Finset S8x3x32x128.Idx)) pHeads_disj pHeads_cover f
theorem cutC (c : Dev nD) (f : Vec F S8x3x32x128 .f32) : (whole c cc0_scratch3 f : sProp 𝕄) = bigSep Finset.univ fun h : Fin 8 => pts c (cHead h) f :=
  Ring.pointsTo_blocks (ℓ := (c : Thread nD τ).loc cc0_scratch3) (fun h : Fin 8 => ((cHead h).view.set : Finset S8x3x32x128.Idx)) cHeads_disj cHeads_cover f

theorem oHalf_rest (c : Dev nD) : (Finset.univ : Finset S16x32x128.Idx) \ (oHalf c).view.set = (oHalf (xp c)).view.set := Finset.ext fun i => by
  have h0 : (i 0).val < 16 := (i 0).isLt
  have h1 := row_lt c
  have h2 := xp_row c
  rw [Finset.mem_sdiff]
  refine ⟨fun h => (mem_oHalf (xp c) i).mpr ?_, fun h => ⟨Finset.mem_univ _, fun h' => ?_⟩⟩
  · have : ¬ (i 0).val / 8 = c.val / 2 := fun e => h.2 ((mem_oHalf c i).mpr e)
    omega
  · have e1 := (mem_oHalf (xp c) i).mp h
    have e2 := (mem_oHalf c i).mp h'
    omega

theorem cutO (c : Dev nD) (f : Vec F S16x32x128 .f32) :
    whole c cc0_stg2_0 f ⊣⊢ (iprop(pts c (oHalf c) f ∗ pts c (oHalf (xp c)) f) : sProp 𝕄) := by
  refine (pointsTo_split_subset (Finset.subset_univ ((oHalf c).view.set : Finset S16x32x128.Idx))).trans ?_
  rw [oHalf_rest]

end Cert.KernelIdeal.Paged

end
-- ==== Proof.Whole.lean ====
/-
  The whole body on one device: from the opened cells, the tokens, the credits and the buffers to the
  buffers at the results and every cell at its last round.
-/
module

public import proofs.«01_k».proof.Proof.Merge

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (W : Dev nD → Valuation τ sig (Elt F)) (κ : GSem nD τ sig → ℕ)

/-! ## The own cells of a device -/

/-- The last round of each own cell. -/
def lastOf : Own → ℕ
  | .inl _ => 4
  | .inr (.inl _) => 4
  | _ => 1

/-- The device's positions on its own cells. -/
def seats (F : FTy → Type) [FloatOps F] (c : Dev nD) (r : Own → ℕ) : sProp (MT nD τ sig Unit (Elt F) ℕ UU ℕ) :=
  bigSep Finset.univ fun k : Own => atPos ER ((c : Thread nD τ), ownSem k) (r k) ∅ 0
/-- Round 0 of every own cell is reached. -/
def begun (F : FTy → Type) [FloatOps F] (c : Dev nD) : sProp (MT nD τ sig Unit (Elt F) ℕ UU ℕ) :=
  bigSep Finset.univ fun k : Own => reached ER ((c : Thread nD τ), ownSem k) 0
/-- The own counters at zero. -/
def zeros (F : FTy → Type) [FloatOps F] (c : Dev nD) : sProp (MT nD τ sig Unit (Elt F) ℕ UU ℕ) :=
  bigSep Finset.univ fun k : Own => semVal ((c : Thread nD τ), ownSem k) 0
/-- The rights to open the own cells. -/
def shut (F : FTy → Type) [FloatOps F] (c : Dev nD) : sProp (MT nD τ sig Unit (Elt F) ℕ UU ℕ) :=
  bigSep Finset.univ fun k : Own => openTok ER ((c : Thread nD τ), ownSem k)

instance begun_persistent (c : Dev nD) : BI.Persistent (begun F c) := by unfold begun; infer_instance

theorem own_split (Φ : Own → sProp 𝕄) : bigSep Finset.univ Φ
    = iprop((Φ (.inl 0) ∗ Φ (.inl 1)) ∗ (Φ (.inr (.inl 0)) ∗ Φ (.inr (.inl 1)))
        ∗ (bigSep Finset.univ fun h : Fin 8 => Φ (.inr (.inr (.inl h)))) ∗ (bigSep Finset.univ fun h : Fin 8 => Φ (.inr (.inr (.inr (.inl h)))))
        ∗ (Φ (.inr (.inr (.inr (.inr 0)))) ∗ Φ (.inr (.inr (.inr (.inr 1)))))) := by
  rw [BI.bigSep_univ_sum, BI.bigSep_univ_sum, BI.bigSep_univ_sum, BI.bigSep_univ_sum, BI.bigSep_fin_two, BI.bigSep_fin_two, BI.bigSep_fin_two]
  rfl

theorem inv_own (c : Dev nD) (k : Own) : invs W κ ⊢ cellInv ER (rd W) (κ ((c : Thread nD τ), ownSem k)) ((c : Thread nD τ), ownSem k) :=
  bigSep_elim (own_mem c k)

theorem later (c : Dev nD) : ∀ (k : Own) (r : ℕ), lastOf k ≤ r → (rd (F := F) W).duties ((c : Thread nD τ), ownSem k) r = ∅
  | .inl _ => later4 W c _
  | .inr (.inl _) => later4 W c _
  | .inr (.inr (.inl h)) => later1 W c _ (fun _ e => nomatch (tag_ys h).symm.trans e) (fun _ e => nomatch (tag_ys h).symm.trans e)
  | .inr (.inr (.inr (.inl h))) => later1 W c _ (fun _ e => nomatch (tag_yr h).symm.trans e) (fun _ e => nomatch (tag_yr h).symm.trans e)
  | .inr (.inr (.inr (.inr 0))) => later1 W c _ (fun _ e => nomatch tag_xs.symm.trans e) (fun _ e => nomatch tag_xs.symm.trans e)
  | .inr (.inr (.inr (.inr 1))) => later1 W c _ (fun _ e => nomatch tag_xr.symm.trans e) (fun _ e => nomatch tag_xr.symm.trans e)

theorem openAll (c : Dev nD) : iprop(invs W κ ∗ shut F c ∗ zeros F c) ⊢ (|={Set.univ}=> (seats F c (fun _ => 0) ∗ begun F c) : sProp 𝕄) := by
  unfold shut zeros seats begun
  rw [← bigSep_sep', ← bigSep_sep']
  refine (bigSep_with_persistent (R := invs W κ) (Ψ := fun k : Own => iprop(|={Set.univ}=> (atPos ER ((c : Thread nD τ), ownSem k) 0 ∅ 0
    ∗ reached ER ((c : Thread nD τ), ownSem k) 0))) fun k _ => ?_).trans (bigSep_fupd _ _)
  iintro ⟨#HI, Ho, Hz⟩
  iapply (Rounds.cell_open ER (rd W) (g := ((c : Thread nD τ), ownSem k)) (Set.mem_univ (κ ((c : Thread nD τ), ownSem k))))
  isplitr; · iapply (inv_own W κ c k); iexact HI
  isplitl [Ho] <;> iassumption

theorem closeAll (c : Dev nD) : iprop(invs W κ ∗ seats F c lastOf) ⊢ (|={Set.univ}=> zeros F c : sProp 𝕄) := by
  unfold zeros seats
  refine (bigSep_with_persistent (R := invs W κ) (Ψ := fun k : Own => iprop(|={Set.univ}=> semVal ((c : Thread nD τ), ownSem k) 0)) fun k _ => ?_).trans
    (bigSep_fupd _ _)
  iintro ⟨#HI, Ho⟩
  iapply (Rounds.cell_close ER (rd W) (Set.mem_univ (κ ((c : Thread nD τ), ownSem k))) id (later W c k))
  isplitr; · iapply (inv_own W κ c k); iexact HI
  iexact Ho

theorem closeBar (c : Dev nD) : iprop(invs W κ ∗ atPos ER (barC c) 1 ∅ 0) ⊢ (|={Set.univ}=> semVal (barC c) 0 : sProp 𝕄) := by
  iintro ⟨#HI, Ho⟩
  iapply (Rounds.cell_close ER (rd W) (Set.mem_univ (κ (barC c))) id (later1 W c (.reg barSem) (fun _ e => nomatch e) (fun _ e => nomatch e)))
  isplitr; · iapply (inv_bar W κ c); iexact HI
  iexact Ho

/-! ## The families over the heads -/

theorem feed_eq (c : Dev nD) : (bigSep Finset.univ fun h => feed W c h)
    = iprop((bigSep Finset.univ fun h : Fin 8 => dutyTok ER (kC c (slotOf h)) (h.val / 2) true) ∗ (bigSep Finset.univ fun h : Fin 8 => dutyTok ER (vC c (slotOf h)) (h.val / 2) true)
        ∗ (bigSep Finset.univ fun h : Fin 8 => pts c (kHead c h) (kv W c)) ∗ bigSep Finset.univ fun h : Fin 8 => pts c (vHead c h) (vv W c)) := by
  unfold feed; rw [bigSep_sep', bigSep_sep', bigSep_sep']
theorem fed_eq (c : Dev nD) : (bigSep Finset.univ fun h => fed W c h)
    = iprop((bigSep Finset.univ fun h : Fin 8 => pts c (kHead c h) (kv W c)) ∗ bigSep Finset.univ fun h : Fin 8 => pts c (vHead c h) (vv W c)) := by
  unfold fed; rw [bigSep_sep']
theorem trade_eq (c : Dev nD) : (bigSep Finset.univ fun h => (trade c h : sProp 𝕄))
    = iprop((bigSep Finset.univ fun h : Fin 8 => ptsAny F c (pHead h)) ∗ (bigSep Finset.univ fun h : Fin 8 => ptsAny F (yp c) (cHead h))
        ∗ (bigSep Finset.univ fun h : Fin 8 => reached ER (yrC (yp c) h) 0) ∗ (bigSep Finset.univ fun h : Fin 8 => reached ER (ysC c h) 0)
        ∗ (bigSep Finset.univ fun h : Fin 8 => dutyTok ER (ysC c h) 0 true) ∗ bigSep Finset.univ fun h : Fin 8 => dutyTok ER (yrC (yp c) h) 0 true) := by
  unfold trade; rw [bigSep_sep', bigSep_sep', bigSep_sep', bigSep_sep', bigSep_sep']
theorem toSettle_eq (c : Dev nD) : (bigSep Finset.univ fun h => toSettle F c h)
    = iprop((bigSep Finset.univ fun h : Fin 8 => cred (tallyAt (ysC c h) () (NY h))) ∗ (bigSep Finset.univ fun h : Fin 8 => cred (tallyAt (yrC c h) () (NY h)))
        ∗ (bigSep Finset.univ fun h : Fin 8 => atPos ER (ysC c h) 0 ∅ 0) ∗ bigSep Finset.univ fun h : Fin 8 => atPos ER (yrC c h) 0 ∅ 0) := by
  unfold toSettle; rw [bigSep_sep', bigSep_sep', bigSep_sep']
theorem settled_eq (c : Dev nD) : (bigSep Finset.univ fun h => settled W c h)
    = iprop((bigSep Finset.univ fun h : Fin 8 => atPos ER (ysC c h) 1 ∅ 0) ∗ (bigSep Finset.univ fun h : Fin 8 => atPos ER (yrC c h) 1 ∅ 0)
        ∗ (bigSep Finset.univ fun h : Fin 8 => pts c (pHead h) (pk W c)) ∗ bigSep Finset.univ fun h : Fin 8 => pts c (cHead h) (pk W (yp c))) := by
  unfold settled; rw [bigSep_sep', bigSep_sep', bigSep_sep']

theorem cutPAny (c : Dev nD) (f : Vec F S8x3x32x128 .f32) : whole c cc0_scratch2 f ⊢ (bigSep Finset.univ fun h : Fin 8 => ptsAny F c (pHead h) : sProp 𝕄) := by
  rw [cutP]
  refine bigSep_mono fun h _ => ?_
  show (pts c (pHead h) f : sProp 𝕄) ⊢ ptsAny F c (pHead h)
  iintro H; iexists f; iexact H
theorem cutCAny (c : Dev nD) (f : Vec F S8x3x32x128 .f32) : whole c cc0_scratch3 f ⊢ (bigSep Finset.univ fun h : Fin 8 => ptsAny F c (cHead h) : sProp 𝕄) := by
  rw [cutC]
  refine bigSep_mono fun h _ => ?_
  show (pts c (cHead h) f : sProp 𝕄) ⊢ ptsAny F c (cHead h)
  iintro H; iexists f; iexact H
theorem cutOAny (c : Dev nD) (f : Vec F S16x32x128 .f32) : whole c cc0_stg2_0 f ⊢ (iprop(ptsAny F c (oHalf c) ∗ ptsAny F c (oHalf (xp c))) : sProp 𝕄) := by
  refine (cutO c f).1.trans ?_
  iintro ⟨H1, H2⟩
  isplitl [H1]; · iexists f; iexact H1
  iexists f; iexact H2

/-! ## What a device holds for the body -/

/-- The duties a device pays. -/
def toks (F : FTy → Type) [FloatOps F] (c : Dev nD) : sProp (MT nD τ sig Unit (Elt F) ℕ UU ℕ) :=
  iprop((bigSep Finset.univ fun h : Fin 8 => dutyTok ER (kC c (slotOf h)) (h.val / 2) true) ∗ (bigSep Finset.univ fun h : Fin 8 => dutyTok ER (vC c (slotOf h)) (h.val / 2) true)
    ∗ (bigSep Finset.univ fun h : Fin 8 => dutyTok ER (ysC c h) 0 true) ∗ (bigSep Finset.univ fun h : Fin 8 => dutyTok ER (yrC (yp c) h) 0 true)
    ∗ (dutyTok ER (xsC c) 0 true ∗ dutyTok ER (xrC (xp c)) 0 true)
    ∗ (dutyTok ER (barC (yp c)) 0 true ∗ dutyTok ER (barC (xp c)) 0 false))
/-- The credits it waits with. -/
def creds (F : FTy → Type) [FloatOps F] (c : Dev nD) : sProp (MT nD τ sig Unit (Elt F) ℕ UU ℕ) :=
  iprop(cred (tallyAt (barC c) () 2) ∗ (bigSep Finset.univ fun h : Fin 8 => cred (tallyAt (yrC c h) () (NY h))) ∗ cred (tallyAt (xrC c) () NX))
/-- Its barrier position, and that the peers' barrier cells are open. -/
def gate (F : FTy → Type) [FloatOps F] (c : Dev nD) : sProp (MT nD τ sig Unit (Elt F) ℕ UU ℕ) :=
  iprop(atPos ER (barC c) 0 ∅ 0 ∗ reached ER (barC (yp c)) 0 ∗ reached ER (barC (xp c)) 0)
/-- The scratch buffers. -/
def scratch (F : FTy → Type) [FloatOps F] (c : Dev nD) : sProp (MT nD τ sig Unit (Elt F) ℕ UU ℕ) :=
  iprop((∃ f, whole c cc0_scratch0 f) ∗ (∃ f, whole c cc0_scratch1 f) ∗ (∃ f, whole c cc0_scratch2 f) ∗ (∃ f, whole c cc0_scratch3 f))
/-- The inputs. -/
def inputs (c : Dev nD) : sProp 𝕄 :=
  iprop(whole c cc0_stg0_0 (qv W c) ∗ whole c cc0_stg1_0 (wv W c) ∗ whole c main_v39 (kv W c) ∗ whole c main_v40 (vv W c))

/-- What is left beside the greeting once the body has everything in pieces. -/
def packed (c : Dev nD) : sProp 𝕄 :=
  iprop((bigSep Finset.univ fun h => feed W c h)
    ∗ ((bigSep Finset.univ fun h : Fin 8 => ptsAny F c (pHead h)) ∗ (bigSep Finset.univ fun h : Fin 8 => reached ER (ysC c h) 0)
        ∗ (bigSep Finset.univ fun h : Fin 8 => dutyTok ER (ysC c h) 0 true) ∗ (bigSep Finset.univ fun h : Fin 8 => dutyTok ER (yrC (yp c) h) 0 true))
    ∗ (free F c 0 0 ∗ free F c 1 0) ∗ (seat F c 0 0 ∗ seat F c 1 0)
    ∗ ((bigSep Finset.univ fun h : Fin 8 => cred (tallyAt (yrC c h) () (NY h)))
        ∗ (bigSep Finset.univ fun h : Fin 8 => atPos ER (ysC c h) 0 ∅ 0) ∗ (bigSep Finset.univ fun h : Fin 8 => atPos ER (yrC c h) 0 ∅ 0))
    ∗ (ptsAny F c (oHalf c) ∗ reached ER (xsC c) 0 ∗ (dutyTok ER (xsC c) 0 true ∗ dutyTok ER (xrC (xp c)) 0 true)
        ∗ cred (tallyAt (xrC c) () NX) ∗ (atPos ER (xsC c) 0 ∅ 0 ∗ atPos ER (xrC c) 0 ∅ 0))
    ∗ (restK c (kv W c) ∗ restV c (vv W c)))

theorem begun_eq (c : Dev nD) : begun F c
    = iprop((reached ER (kC c 0) 0 ∗ reached ER (kC c 1) 0) ∗ (reached ER (vC c 0) 0 ∗ reached ER (vC c 1) 0)
      ∗ (bigSep Finset.univ fun h : Fin 8 => reached ER (ysC c h) 0) ∗ (bigSep Finset.univ fun h : Fin 8 => reached ER (yrC c h) 0)
      ∗ (reached ER (xsC c) 0 ∗ reached ER (xrC c) 0)) := by
  unfold begun; exact own_split _
theorem seats_eq (c : Dev nD) (r : Own → ℕ) : seats F c r
    = iprop((atPos ER (kC c 0) (r (.inl 0)) ∅ 0 ∗ atPos ER (kC c 1) (r (.inl 1)) ∅ 0)
      ∗ (atPos ER (vC c 0) (r (.inr (.inl 0))) ∅ 0 ∗ atPos ER (vC c 1) (r (.inr (.inl 1))) ∅ 0)
      ∗ (bigSep Finset.univ fun h : Fin 8 => atPos ER (ysC c h) (r (.inr (.inr (.inl h)))) ∅ 0)
      ∗ (bigSep Finset.univ fun h : Fin 8 => atPos ER (yrC c h) (r (.inr (.inr (.inr (.inl h))))) ∅ 0)
      ∗ (atPos ER (xsC c) (r (.inr (.inr (.inr (.inr 0))))) ∅ 0 ∗ atPos ER (xrC c) (r (.inr (.inr (.inr (.inr 1))))) ∅ 0)) := by
  unfold seats; exact own_split _

theorem pack (c : Dev nD) :
    iprop(seats F c (fun _ => 0) ∗ begun F c ∗ toks F c ∗ creds F c ∗ gate F c ∗ scratch F c ∗ (∃ f, whole c cc0_stg2_0 f) ∗ inputs W c)
      ⊢ (iprop((greet F c ∗ cred (tallyAt (barC c) () 2) ∗ atPos ER (barC c) 0 ∅ 0) ∗ packed W c
          ∗ (whole c cc0_stg0_0 (qv W c) ∗ whole c cc0_stg1_0 (wv W c))) : sProp 𝕄) := by
  rw [seats_eq, begun_eq]
  unfold toks creds gate scratch inputs greet packed free seat
  rw [feed_eq]
  iintro ⟨⟨⟨AK0, AK1⟩, ⟨AV0, AV1⟩, AYS, AYR, AXS, AXR⟩, ⟨⟨#RK0, #RK1⟩, ⟨#RV0, #RV1⟩, #RYS, #RYR, #RXS, #RXR⟩,
    ⟨TK, TV, TYS, TYR, ⟨TXS, TXR⟩, TBY, TBX⟩, ⟨CB, CYR, CXR⟩, ⟨AB, #RBY, #RBX⟩,
    ⟨⟨%f0, B0⟩, ⟨%f1, B1⟩, ⟨%f2, B2⟩, ⟨%f3, B3⟩⟩, ⟨%fo, BO⟩, Bq, Bw, BK, BV⟩
  ihave B0 := (cutKS c f0) $$ B0
  ihave B1 := (cutVS c f1) $$ B1
  ihave B2 := (cutPAny c f2) $$ B2
  ihave B3 := (cutCAny c f3) $$ B3
  ihave BO := (cutOAny c fo) $$ BO
  ihave BK := (cutK c (kv W c)).1 $$ BK
  ihave BV := (cutV c (vv W c)).1 $$ BV
  icases B0 with ⟨BK0, BK1⟩
  icases B1 with ⟨BV0, BV1⟩
  icases BO with ⟨BO, BOx⟩
  icases BK with ⟨BK, BKr⟩
  icases BV with ⟨BV, BVr⟩
  isplitl [TBY TBX B3 BOx CB AB]
  · isplitl [TBY TBX B3 BOx]
    · isplitl [TBY]; · iexact TBY
      isplitl [TBX]; · iexact TBX
      isplitr; · iexact RBY
      isplitr; · iexact RBX
      isplitl [B3]; · iexact B3
      isplitr; · iexact RYR
      isplitl [BOx]; · iexact BOx
      iexact RXR
    isplitl [CB] <;> iassumption
  isplitl [TK TV BK BV B2 TYS TYR BK0 BV0 BK1 BV1 AK0 AV0 AK1 AV1 CYR AYS AYR BO TXS TXR CXR AXS AXR BKr BVr]
  · isplitl [TK TV BK BV]
    · isplitl [TK]; · iexact TK
      isplitl [TV]; · iexact TV
      isplitl [BK] <;> iassumption
    isplitl [B2 TYS TYR]
    · isplitl [B2]; · iexact B2
      isplitr; · iexact RYS
      isplitl [TYS] <;> iassumption
    isplitl [BK0 BV0 BK1 BV1]
    · isplitl [BK0 BV0]
      · isplitl [BK0]; · iexact BK0
        isplitl [BV0]; · iexact BV0
        isplitr; · iexact RK0
        iexact RV0
      · isplitl [BK1]; · iexact BK1
        isplitl [BV1]; · iexact BV1
        isplitr; · iexact RK1
        iexact RV1
    isplitl [AK0 AV0 AK1 AV1]
    · isplitl [AK0 AV0]
      · isplitl [AK0]; · iexact AK0
        iexact AV0
      · isplitl [AK1]; · iexact AK1
        iexact AV1
    isplitl [CYR AYS AYR]
    · isplitl [CYR]; · iexact CYR
      isplitl [AYS]; · iexact AYS
      iexact AYR
    isplitl [BO TXS TXR CXR AXS AXR]
    · isplitl [BO]; · iexact BO
      isplitr; · iexact RXS
      isplitl [TXS TXR]; · isplitl [TXS] <;> iassumption
      isplitl [CXR]; · iexact CXR
      isplitl [AXS]; · iexact AXS
      iexact AXR
    isplitl [BKr] <;> iassumption
  isplitl [Bq] <;> iassumption

/-- What the body leaves, in pieces. -/
def pieces (c : Dev nD) : sProp 𝕄 :=
  iprop((free F c 0 4 ∗ free F c 1 4) ∗ (seat F c 0 4 ∗ seat F c 1 4) ∗ (bigSep Finset.univ fun h => fed W c h)
    ∗ ((bigSep Finset.univ fun h : Fin 8 => atPos ER (ysC c h) 1 ∅ 0) ∗ (bigSep Finset.univ fun h : Fin 8 => atPos ER (yrC c h) 1 ∅ 0))
    ∗ (whole c cc0_scratch2 (pk W c) ∗ whole c cc0_scratch3 (pk W (yp c))) ∗ (atPos ER (xsC c) 1 ∅ 0 ∗ atPos ER (xrC c) 1 ∅ 0)
    ∗ (pts c (oHalf c) (outv W c) ∗ pts c (oHalf (xp c)) (outv W c)) ∗ (restK c (kv W c) ∗ restV c (vv W c))
    ∗ (whole c cc0_stg0_0 (qv W c) ∗ whole c cc0_stg1_0 (wv W c)))

theorem unpack (c : Dev nD) :
    pieces W c ⊢ (iprop(seats F c lastOf ∗ scratch F c ∗ whole c cc0_stg2_0 (outv W c) ∗ inputs W c) : sProp 𝕄) := by
  rw [seats_eq]
  unfold pieces scratch inputs free seat
  rw [fed_eq]
  iintro ⟨⟨⟨BK0, BV0, -, -⟩, ⟨BK1, BV1, -, -⟩⟩, ⟨⟨AK0, AV0⟩, ⟨AK1, AV1⟩⟩, ⟨BK, BV⟩, ⟨AYS, AYR⟩, ⟨B2, B3⟩, ⟨AXS, AXR⟩, BO, ⟨BKr, BVr⟩, ⟨Bq, Bw⟩⟩
  ihave HO := (cutO c (outv W c)).2 $$ BO
  ihave HK := (cutK c (kv W c)).2 $$ [BK BKr]
  · isplitl [BK] <;> iassumption
  ihave HV := (cutV c (vv W c)).2 $$ [BV BVr]
  · isplitl [BV] <;> iassumption
  ihave H0 := (joinKS c (kf W c 0)) $$ [BK0 BK1]
  · isplitl [BK0] <;> iassumption
  ihave H1 := (joinVS c (vf W c 0)) $$ [BV0 BV1]
  · isplitl [BV0] <;> iassumption
  isplitl [AK0 AK1 AV0 AV1 AYS AYR AXS AXR]
  · isplitl [AK0 AK1]
    · isplitl [AK0]; · iexact AK0
      iexact AK1
    isplitl [AV0 AV1]
    · isplitl [AV0]; · iexact AV0
      iexact AV1
    isplitl [AYS]; · iexact AYS
    isplitl [AYR]; · iexact AYR
    isplitl [AXS]; · iexact AXS
    iexact AXR
  isplitl [H0 H1 B2 B3]
  · isplitl [H0]; · iexact H0
    isplitl [H1]; · iexact H1
    isplitl [B2]; · iexists _; iexact B2
    iexists _; iexact B3
  isplitl [HO]; · iexact HO
  isplitl [Bq]; · iexact Bq
  isplitl [Bw]; · iexact Bw
  isplitl [HK] <;> iassumption

/-! ## The body -/

theorem prog_runs (c : Dev nD) (Kt : PUnit → sProp 𝕄) :
    runs c prog Kt = runs c (enter c >>= fun _ => weights >>= fun w => heads c w >>= fun _ => settles >>= fun _ => merge c) Kt := by
  unfold prog runs
  simp only [Prog.lift, Prog.bind_op, Prog.bind_ret, wp_deviceId]

theorem piecesRun (c : Dev nD) (Wt : Waits sig Unit) (Kt : PUnit → sProp 𝕄) :
    iprop((invs W κ ∗ levAts L lv ∗ (greet F c ∗ cred (tallyAt (barC c) () 2) ∗ atPos ER (barC c) 0 ∅ 0) ∗ packed W c
          ∗ (whole c cc0_stg0_0 (qv W c) ∗ whole c cc0_stg1_0 (wv W c)) ∗ owes (c : Thread nD τ) (owe₀ c) Wt)
        ∗ ((pieces W c ∗ atPos ER (barC c) 1 ∅ 0 ∗ ∃ Wt, owes (c : Thread nD τ) (0 : CellTallies nD τ sig Unit) Wt) -∗ Kt ⟨⟩))
      ⊢ runs c prog Kt := by
  rw [prog_runs, runs_bind]
  unfold packed
  iintro ⟨⟨#HI, #Hlev, ⟨Hg, HcB, HaB⟩, ⟨Hfeed, ⟨HP, HrS, HtS, HtR⟩, Hfree, Hseat, ⟨HcR, HaS, HaR⟩, ⟨HO, HrX, HtX, HcX, HaX⟩, Hrest⟩, ⟨Hq, Hw⟩, Hd⟩, Hk⟩
  iapply (enterRun W κ c Wt)
  isplitl [Hg HcB HaB Hd]
  · isplitr; · iexact HI
    isplitr; · iexact Hlev
    isplitl [Hg]; · iexact Hg
    isplitl [HcB]; · iexact HcB
    isplitl [HaB] <;> iassumption
  iintro ⟨Hgr, HaB, Hd⟩
  unfold greeted
  icases Hgr with ⟨⟨HC, HrC⟩, HX⟩
  rw [runs_bind]
  iapply (weightsRun W c)
  isplitl [Hw]; · iexact Hw
  iintro Hw
  rw [runs_bind]
  iapply (headsRun W κ c)
  isplitl [Hfeed HP HC HrC HrS HtS HtR Hfree Hseat Hq Hd]
  · isplitr; · iexact HI
    isplitr; · iexact Hlev
    isplitl [Hfeed]; · iexact Hfeed
    isplitl [HP HC HrC HrS HtS HtR]
    · rw [trade_eq]
      isplitl [HP]; · iexact HP
      isplitl [HC]; · iexact HC
      isplitl [HrC]; · iexact HrC
      isplitl [HrS]; · iexact HrS
      isplitl [HtS] <;> iassumption
    isplitl [Hfree]; · iexact Hfree
    isplitl [Hseat]; · iexact Hseat
    isplitl [Hq] <;> iassumption
  iintro ⟨Hfree, Hseat, Hfed, HcS, Hq, Hd⟩
  iapply (settlesRun W κ c)
  isplitl [HcS HcR HaS HaR Hd]
  · isplitr; · iexact HI
    isplitr; · iexact Hlev
    isplitl [HcS HcR HaS HaR]
    · rw [toSettle_eq]
      isplitl [HcS]; · iexact HcS
      isplitl [HcR]; · iexact HcR
      isplitl [HaS] <;> iassumption
    iexact Hd
  rw [settled_eq]
  iintro ⟨⟨HaS, HaR, HP, HC⟩, Hd⟩
  iapply (mergeRun W κ c)
  isplitl [HP HC HO HrX HtX HcX HaX HX Hd]
  · isplitr; · iexact HI
    isplitl [HP HC]
    · rw [cutP, cutC]
      isplitl [HP] <;> iassumption
    isplitl [HO]; · iexact HO
    isplitl [HX HrX HtX HcX HaX]
    · unfold swapPre
      isplitl [HX]; · iexact HX
      isplitl [HrX]; · iexact HrX
      isplitl [HtX]; · iexact HtX
      isplitl [HcX] <;> iassumption
    iexact Hd
  iintro ⟨Hb, HaX, HO, Hd⟩
  iapply Hk
  unfold pieces
  isplitl [Hfree Hseat Hfed HaS HaR Hb HaX HO Hrest Hq Hw]
  · isplitl [Hfree]; · iexact Hfree
    isplitl [Hseat]; · iexact Hseat
    isplitl [Hfed]; · iexact Hfed
    isplitl [HaS HaR]; · isplitl [HaS] <;> iassumption
    isplitl [Hb]; · iexact Hb
    isplitl [HaX]; · iexact HaX
    isplitl [HO]; · iexact HO
    isplitl [Hrest]; · iexact Hrest
    isplitl [Hq] <;> iassumption
  isplitl [HaB] <;> iassumption

theorem runs_fupd (c : Dev nD) (p : P F PUnit) (Kt : PUnit → sProp 𝕄) :
    (runs c p fun a => iprop(|={Set.univ}=> Kt a)) ⊢ runs c p Kt := wp_fupd frame (wpE (defs₀ (F := F)) 𝒱₀ (c : Thread nD τ) none) Set.univ p Kt

theorem progRun (c : Dev nD) (Wt : Waits sig Unit) (Kt : PUnit → sProp 𝕄) :
    iprop((invs W κ ∗ levAts L lv ∗ (seats F c (fun _ => 0) ∗ begun F c ∗ toks F c ∗ creds F c ∗ gate F c ∗ scratch F c ∗ (∃ f, whole c cc0_stg2_0 f) ∗ inputs W c)
          ∗ owes (c : Thread nD τ) (owe₀ c) Wt)
        ∗ (((zeros F c ∗ semVal (barC c) 0) ∗ (scratch F c ∗ whole c cc0_stg2_0 (outv W c) ∗ inputs W c)
            ∗ ∃ Wt, owes (c : Thread nD τ) (0 : CellTallies nD τ sig Unit) Wt) -∗ Kt ⟨⟩))
      ⊢ runs c prog Kt := by
  refine BIBase.Entails.trans ?_ (runs_fupd c prog Kt)
  iintro ⟨⟨#HI, #Hlev, Hs, Hd⟩, Hk⟩
  ihave Hs := (pack W c) $$ Hs
  icases Hs with ⟨Hg, Hp, Hqw⟩
  iapply (piecesRun W κ c Wt)
  isplitl [Hg Hp Hqw Hd]
  · isplitr; · iexact HI
    isplitr; · iexact Hlev
    isplitl [Hg]; · iexact Hg
    isplitl [Hp]; · iexact Hp
    isplitl [Hqw] <;> iassumption
  iintro ⟨Hp, HaB, Hd⟩
  ihave Hp := (unpack W c) $$ Hp
  icases Hp with ⟨Hseats, Hb⟩
  imod (closeAll W κ c) $$ [Hseats] with Hz
  · isplitr; · iexact HI
    iexact Hseats
  imod (closeBar W κ c) $$ [HaB] with HzB
  · isplitr; · iexact HI
    iexact HaB
  imodintro
  iapply Hk
  isplitl [Hz HzB]; · isplitl [Hz] <;> iassumption
  isplitl [Hb] <;> iassumption

end Cert.KernelIdeal.Paged

end
-- ==== Proof.BodyEq.lean ====
/-
  The printed body is the program of `Prog`: by unfolding both.
-/
module

public import proofs.«01_k».proof.Proof.Prog

@[expose] public section

noncomputable section

namespace Cert.KernelIdeal.Paged

open Idealize.ShloMosaic Idealize.SL.Sem Cert.KernelIdeal

variable {F : FTy → Type} [FloatOps F]

set_option maxRecDepth 65536 in
set_option maxHeartbeats 4000000 in
theorem body_eq : Gen.bodyAt0 (F := F) Gen.t0_0 = prog := rfl

end Cert.KernelIdeal.Paged

end
-- ==== Proof.Region.lean ====
/-
  The kernel as one region of @main: what its three staged windows hold before and after the one
  point of its grid, the run of the body there, and the region's record.
-/
module

public import proofs.«01_k».proof.Proof.Whole
public import proofs.«01_k».proof.Proof.BodyEq
public import proofs.«01_k».proof.Proof.Gen.KernelIdeal.Launch
public import proofs.«01_k».proof.Proof.Gen.KernelIdeal.Regions
public import proofs.«01_k».proof.Proof.Gen.KernelIdeal.Points

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

variable {F : FTy → Type} [FloatOps F]

local notation "𝕄" => MT nD τ sig Unit (Elt F) ℕ UU ℕ

variable (m : (ℓ : Loc nD τ sig) → Buf (Elt F) ℓ)

/-! ## What the region starts from and ends at -/

/-- The devices' buffers when the kernel is entered. -/
abbrev W₁ (c : Dev nD) : Valuation τ sig (Elt F) := Gen.V1 m c

/-- What the kernel leaves: the result at the merged halves, every other buffer as it was. -/
def outs : Gen.Outs (F := F) := fun _ r c =>
  Function.update (W₁ m c) (Proc.devRef .tc main_v41) (outv (W₁ m) c) (Proc.devRef .tc r)

theorem outs_v41 (c : Dev nD) (n : ℕ) : outs m n main_v41 c = outv (W₁ m) c := by unfold outs; exact Function.update_self ..
theorem outs_v39 (c : Dev nD) (n : ℕ) : outs m n main_v39 c = W₁ m c main_v39 := by unfold outs; exact Function.update_of_ne (by decide) ..
theorem outs_v40 (c : Dev nD) (n : ℕ) : outs m n main_v40 c = W₁ m c main_v40 := by unfold outs; exact Function.update_of_ne (by decide) ..

abbrev W₂ (c : Dev nD) : Valuation τ sig (Elt F) := Gen.V2 m (outs m) c

theorem W₂_v41 (c : Dev nD) : W₂ m c main_v41 = outv (W₁ m) c := by
  unfold W₂ Gen.V2
  rw [Function.update_of_ne (by decide), Function.update_of_ne (by decide), Function.update_self, outs_v41]
theorem W₂_v39 (c : Dev nD) : W₂ m c main_v39 = W₁ m c main_v39 := by
  unfold W₂ Gen.V2
  rw [Function.update_of_ne (by decide), Function.update_self, outs_v39]
theorem W₂_v40 (c : Dev nD) : W₂ m c main_v40 = W₁ m c main_v40 := by
  unfold W₂ Gen.V2
  rw [Function.update_self, outs_v40]

/-- What the launch keeps for the kernel. -/
def kept (c : Dev nD) : sProp 𝕄 :=
  iprop(∃ κ, invs (W₁ m) κ ∗ shut F c ∗ toks F c ∗ creds F c ∗ gate F c)
/-- The same, the kernel's own semaphores opened. -/
def open' (c : Dev nD) : sProp 𝕄 :=
  iprop(∃ κ, invs (W₁ m) κ ∗ seats F c (fun _ => 0) ∗ begun F c ∗ toks F c ∗ creds F c ∗ gate F c ∗ levAts L lv)

def start (c : Dev nD) : sProp 𝕄 :=
  iprop(scratch F c ∗ (∃ r, prngReg c r) ∗ (whole c main_v39 (kv (W₁ m) c) ∗ whole c main_v40 (vv (W₁ m) c)) ∗ open' m c)
def done (c : Dev nD) : sProp 𝕄 :=
  iprop(scratch F c ∗ (∃ r, prngReg c r) ∗ (whole c main_v39 (kv (W₁ m) c) ∗ whole c main_v40 (vv (W₁ m) c)) ∗ zeros F c ∗ semVal (barC c) 0)

def dat (c : Dev nD) : Dat τ (Elt F) Unit ℕ UU ℕ cfg0 c where
  A w := match w with
    | ⟨0, _⟩ => W₁ m c main_v38
    | ⟨1, _⟩ => W₁ m c main_v31
    | ⟨2, _⟩ => W₁ m c main_v41
  after w _ := match w with
    | ⟨0, _⟩ => qv (W₁ m) c
    | ⟨1, _⟩ => wv (W₁ m) c
    | ⟨2, _⟩ => outv (W₁ m) c
  Φ t := if t.val = 0 then start m c else done m c
  q _ := fullShare
  owed t := if t.val = 0 then owe₀ c else 0

def pdats : (p : Fin 1) → (c : Dev nD) → Dat τ (Elt F) Unit ℕ UU ℕ (Pipeline.pin (pcfgs (F := F)) Gen.adm p) c :=
  fun _ c => dat m c

theorem dat_phi (c : Dev nD) (t : Fin (cfg0.N + 1)) : (dat m c).Φ t = if t.val = 0 then start m c else done m c := rfl
theorem dat_owed (c : Dev nD) (t : Fin (cfg0.N + 1)) : (dat m c).owed t = if t.val = 0 then owe₀ c else 0 := rfl
theorem last_pos : (Fin.last cfg0.N).val ≠ 0 := by rw [Fin.val_last, show cfg0.N = 1 from Gen.N_0]; decide
theorem phi_first (c : Dev nD) : (dat m c).Φ Gen.t0_0.castSucc = start m c := by rw [dat_phi]; exact if_pos rfl
theorem phi_next (c : Dev nD) : (dat m c).Φ Gen.t0_0.succ = done m c := by rw [dat_phi]; exact if_neg (Nat.succ_ne_zero _)
theorem phi_last (c : Dev nD) : (dat m c).Φ (Fin.last cfg0.N) = done m c := by rw [dat_phi]; exact if_neg last_pos
theorem owed_first (c : Dev nD) : (dat m c).owed Gen.t0_0.castSucc = owe₀ c := by rw [dat_owed]; exact if_pos rfl
theorem owed_next (c : Dev nD) : (dat m c).owed Gen.t0_0.succ = 0 := by rw [dat_owed]; exact if_neg (Nat.succ_ne_zero _)
theorem owed_zero (c : Dev nD) : (dat m c).owed 0 = owe₀ c := by rw [dat_owed]; exact if_pos rfl
theorem owed_last (c : Dev nD) : (dat m c).owed (Fin.last cfg0.N) = 0 := by rw [dat_owed]; exact if_neg last_pos

/-! ## Owing within the region -/

theorem owes_in (c : Dev nD) (t : Fin (cfg0.N + 1)) (O : CellTallies nD τ sig Unit) (h : (dat m c).owed t = O) :
    (dat m c).owesAt () t ⊢ (iprop(∃ Wt, owes (c : Thread nD τ) O Wt) : sProp 𝕄) := by
  unfold Dat.owesAt Pipeline.owesWithin
  rw [h]
  iintro ⟨%Wt, -, HO⟩
  iexists Wt; iexact HO
theorem owes_out (c : Dev nD) (t : Fin (cfg0.N + 1)) (O : CellTallies nD τ sig Unit) (h : (dat m c).owed t = O) (Wt : Waits sig Unit) :
    (owes (c : Thread nD τ) O Wt : sProp 𝕄) ⊢ (dat m c).owesAt () t := by
  unfold Dat.owesAt Pipeline.owesWithin Dat.bound
  rw [h, show (dat m c).recorded t = Set.univ from rfl]
  iintro HO
  iexists Wt
  isplitr
  · ipureintro; exact fun _ _ => Or.inl trivial
  iexact HO

/-! ## The staged windows -/

theorem owns_in (c : Dev nD) (b : Ref sig .tc) (X : b.ty.Contents (Elt F)) :
    (owns (Ix := Unit) (Name := ℕ) (U := UU) (Lvl := ℕ) (c : Thread nD τ) (Memref.whole b) fullShare X : sProp 𝕄) ⊢ whole c b X := by
  unfold owns
  simp only [Memref.view_whole, View.read_whole, View.set_whole]
  iintro ⟨%f, %e, H⟩
  subst e
  iexact H
theorem owns_out (c : Dev nD) (b : Ref sig .tc) (X : b.ty.Contents (Elt F)) :
    whole c b X ⊢ (owns (Ix := Unit) (Name := ℕ) (U := UU) (Lvl := ℕ) (c : Thread nD τ) (Memref.whole b) fullShare X : sProp 𝕄) := by
  unfold owns
  simp only [Memref.view_whole, View.read_whole, View.set_whole]
  iintro H
  iexists X
  isplitr
  · ipureintro; rfl
  iexact H

/-- A window's one block is its whole array. -/
theorem block_q (f : Vec F S8x32x128 .f32) : (win0_0.blk Gen.t0_0).view.read (Elt F) f = f :=
  funext fun i => congrArg f (funext fun a => Fin.ext (by show 0 * S8x32x128.size a + 1 * (i a).val = (i a).val; omega))
theorem block_w (f : Vec F S32x8192 .f32) : (win0_1.blk Gen.t0_0).view.read (Elt F) f = f :=
  funext fun i => congrArg f (funext fun a => Fin.ext (by show 0 * S32x8192.size a + 1 * (i a).val = (i a).val; omega))
theorem emb_o (i : S16x32x128.Idx) : (win0_2.blk Gen.t0_0).view.emb i = i :=
  funext fun a => Fin.ext (by show 0 * S16x32x128.size a + 1 * (i a).val = (i a).val; omega)

theorem before_q (c : Dev nD) (d) : (dat m c).before (0 : Fin 3) Gen.t0_0 d = qv (W₁ m) c := by
  rw [Dat.before_fetched (dat m c) (0 : Fin 3) Gen.t0_0 (Gen.fetch0_0 _)]; exact block_q (W₁ m c main_v38)
theorem before_w (c : Dev nD) (d) : (dat m c).before (1 : Fin 3) Gen.t0_0 d = wv (W₁ m) c := by
  rw [Dat.before_fetched (dat m c) (1 : Fin 3) Gen.t0_0 (Gen.fetch0_1 _)]; exact block_w (W₁ m c main_v31)

set_option maxRecDepth 8000 in
theorem atPoint (c : Dev nD) : BodyObligation (dat m c) (defs₀ (F := F)) 𝒱₀ () Set.univ := fun t => by
  obtain rfl := Gen.fin_N0 t
  rw [Gen.bigSep_W0, Gen.bigSep_W0, phi_first, phi_next]
  show iprop(start m c ∗ (dat m c).owesAt () Gen.t0_0.castSucc
      ∗ ((∃ d, owns (c : Thread nD τ) (Memref.whole cc0_stg0_0) fullShare ((dat m c).before (0 : Fin 3) Gen.t0_0 d))
        ∗ (∃ d, owns (c : Thread nD τ) (Memref.whole cc0_stg1_0) fullShare ((dat m c).before (1 : Fin 3) Gen.t0_0 d))
        ∗ (∃ d, owns (c : Thread nD τ) (Memref.whole cc0_stg2_0) fullShare ((dat m c).before (2 : Fin 3) Gen.t0_0 d))))
    ⊢ runs c (Gen.bodyAt0 Gen.t0_0) (fun _ => iprop(done m c ∗ (dat m c).owesAt () Gen.t0_0.succ
      ∗ (owns (c : Thread nD τ) (Memref.whole cc0_stg0_0) fullShare (qv (W₁ m) c)
        ∗ owns (c : Thread nD τ) (Memref.whole cc0_stg1_0) fullShare (wv (W₁ m) c)
        ∗ owns (c : Thread nD τ) (Memref.whole cc0_stg2_0) fullShare (outv (W₁ m) c))))
  rw [body_eq]
  unfold start open'
  iintro ⟨⟨HS, Hp, ⟨HK, HV⟩, ⟨%κ, #HI, Hseat, #Hb, Ht, Hc, Hg, #HL⟩⟩, HO, ⟨⟨%d0, H0⟩, ⟨%d1, H1⟩, ⟨%d2, H2⟩⟩⟩
  ihave HO := (owes_in m c _ _ (owed_first m c)) $$ HO
  icases HO with ⟨%Wt, HO⟩
  rw [before_q, before_w]
  ihave H0 := (owns_in c cc0_stg0_0 _) $$ H0
  ihave H1 := (owns_in c cc0_stg1_0 _) $$ H1
  ihave H2 := (owns_in c cc0_stg2_0 _) $$ H2
  iapply (progRun (W₁ m) κ c Wt _)
  isplitl [HS HK HV Hseat Ht Hc Hg HO H0 H1 H2]
  · isplitr; · iexact HI
    isplitr; · iexact HL
    isplitr [HO]
    · isplitl [Hseat]; · iexact Hseat
      isplitr; · iexact Hb
      isplitl [Ht]; · iexact Ht
      isplitl [Hc]; · iexact Hc
      isplitl [Hg]; · iexact Hg
      isplitl [HS]; · iexact HS
      isplitl [H2]; · iexists _; iexact H2
      unfold inputs
      isplitl [H0]; · iexact H0
      isplitl [H1]; · iexact H1
      isplitl [HK] <;> iassumption
    iexact HO
  unfold inputs done
  iintro ⟨⟨Hz, Hbar⟩, ⟨HS, H2, H0, H1, HK, HV⟩, ⟨%Wt', HO⟩⟩
  isplitl [Hz Hbar HS HK HV Hp]
  · isplitl [HS]; · iexact HS
    isplitl [Hp]; · iexact Hp
    isplitl [HK HV]; · isplitl [HK] <;> iassumption
    isplitl [Hz] <;> iassumption
  isplitl [HO]
  · iapply (owes_out m c _ _ (owed_next m c) Wt'); iexact HO
  isplitl [H0]; · iapply (owns_out c cc0_stg0_0 _); iexact H0
  isplitl [H1]; · iapply (owns_out c cc0_stg1_0 _); iexact H1
  iapply (owns_out c cc0_stg2_0 _); iexact H2

/-! ## The region's record -/

/-- The keys' and the values' buffer, which the body addresses itself. -/
abbrev handed : Finset (DevRef τ sig) := {Proc.devRef .tc main_v39, Proc.devRef .tc main_v40}
/-- Every buffer of @main but the windows' arrays. -/
abbrev others : Finset (DevRef τ sig) := Pipeline.ucRefs τ sig \ Pipeline.arrRefs (τ := τ) spec0

theorem held_handed (c : Dev nD) (V : Valuation τ sig (Elt F)) :
    (StableHlo.held (c.tc : Thread nD τ) handed V : sProp 𝕄)
      = iprop(whole c main_v39 (V main_v39) ∗ whole c main_v40 (V main_v40)) := by
  unfold StableHlo.held
  rw [bigSep_insert (by decide), bigSep_singleton]
  rfl

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem own_zeros (c : Dev nD) : (Pipeline.ownSems0 ownSem c : sProp 𝕄) = zeros F c := rfl

theorem opened (c : Dev nD) : iprop(kept m c ∗ Pipeline.ownSems0 ownSem c ∗ levAts L lv) ⊢ (|={Set.univ}=> open' m c : sProp 𝕄) := by
  rw [own_zeros]
  unfold kept open'
  iintro ⟨⟨%κ, #HI, Hs, Ht, Hc, Hg⟩, Hz, #HL⟩
  imod (openAll (W₁ m) κ c) $$ [Hs Hz] with ⟨Hseat, #Hb⟩
  · isplitr; · iexact HI
    isplitl [Hs]; · iexact Hs
    iexact Hz
  imodintro
  iexists κ
  isplitr; · iexact HI
  isplitl [Hseat]; · iexact Hseat
  isplitr; · iexact Hb
  isplitl [Ht]; · iexact Ht
  isplitl [Hc]; · iexact Hc
  isplitl [Hg]; · iexact Hg
  iexact HL

theorem entered (c : Dev nD) : iprop(Pipeline.scopedRest (Pipeline.pin (pcfgs (F := F)) Gen.adm 0).spec c ∗ (∃ r, prngReg c r)
    ∗ StableHlo.held (c.tc : Thread nD τ) handed (W₁ m c) ∗ open' m c) ⊢ (pdats m 0 c).Φ 0 := by
  rw [show (pdats m 0 c).Φ 0 = start m c from phi_first m c,
    show (Pipeline.scopedRest (Pipeline.pin (pcfgs (F := F)) Gen.adm 0).spec c : sProp 𝕄) = scratch F c from Gen.scopedRest0_eq c, held_handed]
  unfold start kv vv
  exact BI.Entails.refl _

theorem leaving (c : Dev nD) : (pdats m 0 c).Φ (Fin.last (Pipeline.pin (pcfgs (F := F)) Gen.adm 0).N)
    ⊢ iprop(Pipeline.scopedRest (Pipeline.pin (pcfgs (F := F)) Gen.adm 0).spec c ∗ (∃ r, prngReg c r)
      ∗ StableHlo.held (c.tc : Thread nD τ) handed (W₂ m c) ∗ Pipeline.ownSems0 ownSem c ∗ semVal (barC c) 0) := by
  rw [show (pdats m 0 c).Φ (Fin.last _) = done m c from phi_last m c,
    show (Pipeline.scopedRest (Pipeline.pin (pcfgs (F := F)) Gen.adm 0).spec c : sProp 𝕄) = scratch F c from Gen.scopedRest0_eq c, held_handed, own_zeros,
    W₂_v39, W₂_v40]
  unfold done kv vv
  exact BI.Entails.refl _

theorem arr_in (c : Dev nD) (w : Fin 3) : (dat m c).arrAt w 0 = W₁ m c (Proc.devRef .tc (Pipeline.arrRef spec0 w)) := by
  fin_cases w <;> rfl
theorem arr_out (c : Dev nD) (w : Fin 3) : (dat m c).arrAt w cfg0.N = W₂ m c (Proc.devRef .tc (Pipeline.arrRef spec0 w)) := by
  match w with
  | 0 => exact ((dat m c).arrAt_in (0 : Fin 3) rfl _).trans (Gen.V2_of m (outs m) c main_v38 (by decide)).symm
  | 1 => exact ((dat m c).arrAt_in (1 : Fin 3) rfl _).trans (Gen.V2_of m (outs m) c main_v31 (by decide)).symm
  | 2 =>
    refine Eq.trans ((dat m c).arrAt_eq_of_cover (2 : Fin 3) (outv (W₁ m) c) (fun t _ => ?_) fun i => ⟨Gen.t0_0, Gen.flush0_2 _, ?_⟩) (W₂_v41 m c).symm
    · obtain rfl := Gen.fin_N0 t
      exact funext fun i => (congrArg (outv (W₁ m) c) (emb_o i)).symm
    · exact (emb_o i) ▸ (win0_2.blk Gen.t0_0).view.emb_mem_set i

theorem rest_same (c : Dev nD) : ∀ b ∈ others \ handed, W₂ m c b = W₁ m c b := fun b hb => by
  obtain ⟨h1, h2⟩ := Finset.mem_sdiff.mp hb
  obtain ⟨-, h3⟩ := Finset.mem_sdiff.mp h1
  have n39 : b ≠ Proc.devRef .tc main_v39 := fun e => h2 (e ▸ Finset.mem_insert_self _ _)
  have n40 : b ≠ Proc.devRef .tc main_v40 := fun e => h2 (e ▸ Finset.mem_insert_of_mem (Finset.mem_singleton_self _))
  have n41 : b ≠ Proc.devRef .tc main_v41 := fun e => h3 (e ▸
    (by decide : (Proc.devRef .tc main_v41 : DevRef τ sig) ∈ Pipeline.arrRefs (τ := τ) spec0))
  unfold W₂ Gen.V2
  rw [Function.update_of_ne n40, Function.update_of_ne n39, Function.update_of_ne n41]

theorem levels (c : Dev nD) (t : Fin (cfg0.N + 1)) (g : GSem nD τ sig) (i : Unit) (h : 0 < (dat m c).owed t g i) :
    i ∈ L g ∧ (0 : ℕ) < lv g i := by
  rw [dat_owed] at h
  split at h
  · rcases owe₀_pos h with ⟨k, rfl⟩ | rfl | rfl | rfl
    · exact ⟨by rw [L_tc]; exact Finset.mem_singleton_self _, by unfold lv; dsimp only; rw [tag_yr]; exact Nat.two_pos⟩
    · exact ⟨by rw [L_tc]; exact Finset.mem_singleton_self _, by unfold lv; dsimp only; rw [tag_xr]; exact Nat.zero_lt_succ 2⟩
    · exact ⟨by rw [L_tc]; exact Finset.mem_singleton_self _, Nat.one_pos⟩
    · exact ⟨by rw [L_tc]; exact Finset.mem_singleton_self _, Nat.one_pos⟩
  · exact absurd h (Nat.lt_irrefl 0)

theorem staged_low (w : Fin 3) (s : Fin ((win0 w).nbuf)) : lvT (tagOf (.dma ((win0 w).sem s))) = 0 := by
  revert s; revert w; decide

set_option backward.isDefEq.respectTransparency.types false in
def region : Pipeline.RegionSeg (pcfgs (F := F)) Gen.adm (pdats m) () defs₀ 𝒱₀ L lv 0 :=
  Pipeline.RegionSeg.ofTalk (pcfgs (F := F)) Gen.adm (pdats m) () defs₀ 𝒱₀ L lv 0 ownSem (by decide : Pipeline.OwnSemFacts spec0 ownSem)
    handed (others) (by decide) kit rfl (fun c => (atPoint m c).loose)
    (fun _ => 0) owe₀ (fun c => (owed_zero m c).trans (zero_add _).symm) (owed_last m) (fun _ => rfl)
    (fun _ w => by fin_cases w <;> rfl)
    (W₁ m) (W₂ m) (rest_same m)
    (kept m) (fun c => semVal (barC c) 0) (open' m) (fun c => semVal (barC c) 0) (opened m) (entered m) (leaving m)
    (fun c => by iintro H; imodintro; iexact H)
    (fun _ => 0)
    ⟨fun c w s => by rw [L_tc]; exact Finset.mem_singleton_self _, fun c w s => le_of_eq (staged_low w s), fun c t g i h => levels m c t g i h⟩
    (fun _ => iprop(emp))
    (arr_in m) (arr_out m)

end Cert.KernelIdeal.Paged

end
-- ==== Proof.Launch.lean ====
/-
  The launch: every cell's invariant allocated, the tokens of the duties dealt to the devices that
  pay them, the credits to the devices that wait; and from it the run of @main on the four devices.
-/
module

public import proofs.«01_k».proof.Proof.Region
public import Idealize.ShloMosaic.Lib.Quiescent

@[expose] public section

noncomputable section

namespace Cert.KernelIdeal.Paged

open Idealize.ShloMosaic Idealize.ShloMosaic.TcCoe Cert.KernelIdeal Cert.KernelIdeal.Facts₀ Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

variable {F : FTy → Type} [FloatOps F]

local notation "𝕄" => MT nD τ sig Unit (Elt F) ℕ UU ℕ

/-! ## The tokens -/

/-- The duties of one device's cells: per head its keys' and values' copies, its send and its landing;
    the exchange of the halves; the two barrier units. -/
abbrev Duty : Type := Fin 8 ⊕ Fin 8 ⊕ Fin 8 ⊕ Fin 8 ⊕ Fin 2 ⊕ Fin 2
def duty : Duty → SemLoc sig × ℕ × Bool
  | .inl h => (.dma (kSem (slotOf h)), h.val / 2, true)
  | .inr (.inl h) => (.dma (vSem (slotOf h)), h.val / 2, true)
  | .inr (.inr (.inl h)) => (.dma (ysSem h), 0, true)
  | .inr (.inr (.inr (.inl h))) => (.dma (yrSem h), 0, true)
  | .inr (.inr (.inr (.inr (.inl 0)))) => (.dma xsSem, 0, true)
  | .inr (.inr (.inr (.inr (.inl 1)))) => (.dma xrSem, 0, true)
  | .inr (.inr (.inr (.inr (.inr 0)))) => (.reg barSem, 0, true)
  | .inr (.inr (.inr (.inr (.inr 1)))) => (.reg barSem, 0, false)

set_option maxRecDepth 20000 in
theorem duty_inj : Function.Injective duty := by decide

def dutyEmb : Dev nD × Duty ↪ GSem nD τ sig × ℕ × Bool :=
  ⟨fun ck => (((ck.1 : Thread nD τ), (duty ck.2).1), (duty ck.2).2.1, (duty ck.2).2.2), fun _ _ h =>
    Prod.ext (congrArg (fun t : GSem nD τ sig × ℕ × Bool => t.1.1.1) h)
      (duty_inj (Prod.ext (congrArg (fun t : GSem nD τ sig × ℕ × Bool => t.1.2) h)
        (Prod.ext (congrArg (fun t : GSem nD τ sig × ℕ × Bool => t.2.1) h) (congrArg (fun t : GSem nD τ sig × ℕ × Bool => t.2.2) h))))⟩
def allDuties : Finset (GSem nD τ sig × ℕ × Bool) := Finset.univ.map dutyEmb

/-- The tokens of device `c`'s own cells. -/
def minted (F : FTy → Type) [FloatOps F] (c : Dev nD) : sProp (MT nD τ sig Unit (Elt F) ℕ UU ℕ) :=
  iprop((bigSep Finset.univ fun h : Fin 8 => dutyTok ER (kC c (slotOf h)) (h.val / 2) true) ∗ (bigSep Finset.univ fun h : Fin 8 => dutyTok ER (vC c (slotOf h)) (h.val / 2) true)
    ∗ (bigSep Finset.univ fun h : Fin 8 => dutyTok ER (ysC c h) 0 true) ∗ (bigSep Finset.univ fun h : Fin 8 => dutyTok ER (yrC c h) 0 true)
    ∗ (dutyTok ER (xsC c) 0 true ∗ dutyTok ER (xrC c) 0 true)
    ∗ (dutyTok ER (barC c) 0 true ∗ dutyTok ER (barC c) 0 false))

theorem minted_eq : bigSep allDuties (fun x => (dutyTok ER x.1 x.2.1 x.2.2 : sProp 𝕄)) = bigSep Finset.univ fun c : Dev nD => minted F c := by
  unfold allDuties
  rw [bigSep_map, bigSep_univ_prod]
  refine bigSep_congr fun c _ => ?_
  rw [BI.bigSep_univ_sum, BI.bigSep_univ_sum, BI.bigSep_univ_sum, BI.bigSep_univ_sum, BI.bigSep_univ_sum, BI.bigSep_fin_two, BI.bigSep_fin_two]
  rfl

/-- The tokens handed to the devices that pay: the landings' to the peers that send, the barrier units'
    to the peers that signal. -/
theorem dealt : (bigSep Finset.univ fun c : Dev nD => minted F c) ⊢ (bigSep Finset.univ fun c : Dev nD => toks F c : sProp 𝕄) := by
  unfold minted toks
  simp only [bigSep_sep']
  rw [bigSep_univ_equiv ypEquiv (fun c : Dev nD => (bigSep Finset.univ fun h : Fin 8 => dutyTok ER (yrC c h) 0 true : sProp 𝕄)),
    bigSep_univ_equiv xpEquiv (fun c : Dev nD => (dutyTok ER (xrC c) 0 true : sProp 𝕄)),
    bigSep_univ_equiv ypEquiv (fun c : Dev nD => (dutyTok ER (barC c) 0 true : sProp 𝕄)),
    bigSep_univ_equiv xpEquiv (fun c : Dev nD => (dutyTok ER (barC c) 0 false : sProp 𝕄))]
  exact BI.Entails.refl _

/-! ## The credits -/

theorem yp_eq {c d : Dev nD} : yp d = c ↔ d = yp c := by revert c d; decide
theorem xp_eq {c d : Dev nD} : xp d = c ↔ d = xp c := by revert c d; decide
theorem yp_ne_xp : ∀ c : Dev nD, yp c ≠ xp c := by decide

theorem tally_other {c d : Dev nD} {s s' : SemLoc sig} (h : s' ≠ s) (n : ℕ) :
    (tallyAt ((d : Thread nD τ), s') () n : CellTallies nD τ sig Unit) ((c : Thread nD τ), s) () = 0 := by
  rw [tallyAt_apply]; exact if_neg fun h' => h (congrArg Prod.snd h'.1).symm
theorem tally_same (c d : Dev nD) (s : SemLoc sig) (n : ℕ) :
    (tallyAt ((d : Thread nD τ), s) () n : CellTallies nD τ sig Unit) ((c : Thread nD τ), s) () = if d = c then n else 0 := by
  rw [tallyAt_apply]
  by_cases h : d = c
  · subst h; rw [if_pos ⟨rfl, rfl⟩, if_pos rfl]
  · rw [if_neg (fun h' => h (congrArg (fun g : GSem nD τ sig => g.1.1) h'.1).symm), if_neg h]

theorem ysr_inj : ∀ h h' : Fin 8, h ≠ h' → (SemLoc.dma (yrSem h) : SemLoc sig) ≠ .dma (yrSem h') := by decide
theorem yr_ne_xr : ∀ h : Fin 8, (SemLoc.dma (yrSem h) : SemLoc sig) ≠ .dma xrSem := by decide
theorem yr_ne_bar : ∀ h : Fin 8, (SemLoc.dma (yrSem h) : SemLoc sig) ≠ .reg barSem := by decide
theorem xr_ne_bar : (SemLoc.dma xrSem : SemLoc sig) ≠ .reg barSem := by decide

/-- What device `d` owes a cell of device `c` at entry. -/
theorem owed_split (d : Dev nD) (g : GSem nD τ sig) : owe₀ d g () =
    (∑ h : Fin 8, (tallyAt (yrC (yp d) h) () (NY h) : CellTallies nD τ sig Unit) g ()) + (tallyAt (xrC (xp d)) () NX : CellTallies nD τ sig Unit) g ()
      + (tallyAt (barC (xp d)) () 1 : CellTallies nD τ sig Unit) g () + (tallyAt (barC (yp d)) () 1 : CellTallies nD τ sig Unit) g () := by
  unfold owe₀ owe
  rw [show Finset.univ.filter (fun h : Fin 8 => 0 ≤ h.val) = Finset.univ from by decide]
  simp only [Pi.add_apply, Finsupp.add_apply, Finset.sum_apply, Finsupp.finset_sum_apply]

theorem owed_bar (d c : Dev nD) : owe₀ d (barC c) () = (if d = xp c then 1 else 0) + (if d = yp c then 1 else 0) := by
  rw [owed_split, Finset.sum_eq_zero fun h _ => tally_other (yr_ne_bar h) _, tally_other xr_ne_bar, tally_same, tally_same]
  simp only [yp_eq, xp_eq, Nat.zero_add]
theorem owed_yr (d c : Dev nD) (h : Fin 8) : owe₀ d (yrC c h) () = if d = yp c then NY h else 0 := by
  rw [owed_split, Finset.sum_eq_single h (fun h' _ hn => tally_other (ysr_inj h' h hn) _) (fun hn => absurd (Finset.mem_univ _) hn),
    tally_other (yr_ne_xr h).symm, tally_other (yr_ne_bar h).symm, tally_other (yr_ne_bar h).symm, tally_same]
  simp only [yp_eq, Nat.add_zero]
theorem owed_xr (d c : Dev nD) : owe₀ d (xrC c) () = if d = xp c then NX else 0 := by
  rw [owed_split, Finset.sum_eq_zero fun h _ => tally_other (yr_ne_xr h) _, tally_other xr_ne_bar.symm, tally_other xr_ne_bar.symm, tally_same]
  simp only [xp_eq, Nat.add_zero, Nat.zero_add]

theorem launch_at (g : GSem nD τ sig) (n : ℕ) (h : ∑ d : Dev nD, owe₀ d g () = n) :
    tallyOn g (launchCredit (Pipeline.owing owe₀) 0 g) = (tallyAt g () n : CellTallies nD τ sig Unit) := by
  unfold tallyAt
  refine congrArg _ (Finsupp.ext fun u => ?_)
  cases u
  rw [Pipeline.launchCredit_owing, Finsupp.single_eq_same, h]
theorem launch_bar (c : Dev nD) : ∑ d : Dev nD, owe₀ d (barC c) () = 2 := by
  rw [Finset.sum_congr rfl fun d _ => owed_bar d c, Finset.sum_add_distrib, Finset.sum_ite_eq' Finset.univ (xp c) fun _ => 1,
    Finset.sum_ite_eq' Finset.univ (yp c) fun _ => 1, if_pos (Finset.mem_univ _), if_pos (Finset.mem_univ _)]
theorem launch_yr (c : Dev nD) (h : Fin 8) : ∑ d : Dev nD, owe₀ d (yrC c h) () = NY h := by
  rw [Finset.sum_congr rfl fun d _ => owed_yr d c h, Finset.sum_ite_eq' Finset.univ (yp c) fun _ => NY h, if_pos (Finset.mem_univ _)]
theorem launch_xr (c : Dev nD) : ∑ d : Dev nD, owe₀ d (xrC c) () = NX := by
  rw [Finset.sum_congr rfl fun d _ => owed_xr d c, Finset.sum_ite_eq' Finset.univ (xp c) fun _ => NX, if_pos (Finset.mem_univ _)]

/-- The semaphores a device waits on for others. -/
def waited : Fin 8 ⊕ Fin 2 → SemLoc sig
  | .inl h => .dma (yrSem h)
  | .inr 0 => .reg barSem
  | .inr 1 => .dma xrSem
theorem waited_inj : Function.Injective waited := by decide

theorem funded (c : Dev nD) : (Pipeline.launchCred owe₀ c : sProp 𝕄) ⊢ creds F c := by
  unfold Pipeline.launchCred creds
  refine BIBase.Entails.trans (bigSep_subset (t := Finset.univ.map ⟨waited, waited_inj⟩) (Finset.subset_univ _)) ?_
  rw [bigSep_map, BI.bigSep_univ_sum, BI.bigSep_fin_two]
  have e1 : (fun h : Fin 8 => (cred (tallyOn (yrC c h) (launchCredit (Pipeline.owing owe₀) 0 (yrC c h))) : sProp 𝕄))
      = fun h => cred (tallyAt (yrC c h) () (NY h)) := funext fun h => by rw [launch_at _ _ (launch_yr c h)]
  show iprop((bigSep Finset.univ fun h : Fin 8 => (cred (tallyOn (yrC c h) (launchCredit (Pipeline.owing owe₀) 0 (yrC c h))) : sProp 𝕄))
      ∗ cred (tallyOn (barC c) (launchCredit (Pipeline.owing owe₀) 0 (barC c))) ∗ cred (tallyOn (xrC c) (launchCredit (Pipeline.owing owe₀) 0 (xrC c)))) ⊢ _
  rw [e1, launch_at _ _ (launch_bar c), launch_at _ _ (launch_xr c)]
  iintro ⟨H1, H2, H3⟩
  isplitl [H2]; · iexact H2
  isplitl [H1] <;> iassumption

/-! ## The launch -/

variable (m : (ℓ : Loc nD τ sig) → Buf (Elt F) ℓ) (ρ : Dev nD → PrngReg)

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- The state the launch starts from. -/
def u₀ (F : FTy → Type) [FloatOps F] : UU :=
  (initOf (Pipeline.cells (Pipeline.pin (pcfgs (F := F)) Gen.adm) Gen.cellOf_inj) (Pipeline.launchToks (Pipeline.pin (pcfgs (F := F)) Gen.adm) Gen.cellOf_inj),
    launchOf barCells ownCells allDuties)

/-- A resource, all of it on device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The launch state of the kernel's own semaphores. -/
def ghost₀ (F : FTy → Type) [FloatOps F] : sProp (MT nD τ sig Unit (Elt F) ℕ UU ℕ) := BI.own (ER (launchOf barCells ownCells allDuties))

/-- What every device may consult: the invariants; that the barrier cells' first round has begun. -/
def records (κ : GSem nD τ sig → ℕ) : sProp 𝕄 := iprop(invs (W₁ m) κ ∗ bigSep barCells fun g => reached ER g 0)
instance records_persistent (κ : GSem nD τ sig → ℕ) : BI.Persistent (records m κ) := by unfold records; infer_instance

theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
theorem together {Φ Ψ : Dev nD → sProp 𝕄} : iprop(bigSep Finset.univ Φ ∗ bigSep Finset.univ Ψ) ⊢ (bigSep Finset.univ fun c => iprop(Φ c ∗ Ψ c)) :=
  Entails.of_eq (bigSep_sep' _ _ _).symm

theorem reached_bar (c : Dev nD) : (bigSep barCells fun g => (reached ER g 0 : sProp 𝕄)) ⊢ reached ER (barC c) 0 :=
  bigSep_elim (Finset.mem_map_of_mem barEmb (Finset.mem_univ c))

/-- What rides beside the buffers up to the kernel, and after it. -/
def E (n : Fin 2) (c : Dev nD) : sProp 𝕄 :=
  if n = 0 then iprop(kept m c ∗ (∃ Wt, owes (c : Thread nD τ) (owe₀ c) Wt) ∗ ∃ r, prngReg c r)
  else iprop(semVal (barC c) 0 ∗ ∃ Wt, owes (c : Thread nD τ) (0 : CellTallies nD τ sig Unit) Wt)

/-- A device's own share of the launch. -/
def share (F : FTy → Type) [FloatOps F] (c : Dev nD) : sProp (MT nD τ sig Unit (Elt F) ℕ UU ℕ) :=
  iprop(atPos ER (barC c) 0 ∅ 0 ∗ shut F c ∗ toks F c)
def bundle (c : Dev nD) : sProp 𝕄 :=
  iprop(StableHlo.held (c : Thread nD τ) (Pipeline.ucRefs τ sig) (Gen.V0 m c) ∗ creds F c ∗ owes (c : Thread nD τ) (owe₀ c) ∅ ∗ ∃ r, prngReg c r)

abbrev T₀ (c : Dev nD) : sProp 𝕄 := iprop(StableHlo.held (c : Thread nD τ) (Pipeline.ucRefs τ sig) (Gen.V0 m c) ∗ E m 0 c)
abbrev Tₙ (c : Dev nD) : sProp 𝕄 := iprop(StableHlo.held (c : Thread nD τ) (Pipeline.ucRefs τ sig) (Gen.V3 m (outs m) c) ∗ semVal (barC c) 0)

theorem ready (κ : GSem nD τ sig → ℕ) (c : Dev nD) : iprop(records m κ ∗ (share F c ∗ bundle m c)) ⊢ T₀ m c := by
  unfold records share bundle T₀ E
  rw [if_pos rfl]
  unfold kept gate
  iintro ⟨⟨#HI, #HR⟩, ⟨Ha, Hs, Ht⟩, Hh, Hc, HO, Hp⟩
  isplitl [Hh]; · iexact Hh
  isplitr [HO Hp]
  · iexists κ
    isplitr; · iexact HI
    isplitl [Hs]; · iexact Hs
    isplitl [Ht]; · iexact Ht
    isplitl [Hc]; · iexact Hc
    isplitl [Ha]; · iexact Ha
    isplitr; · iapply (reached_bar (F := F) (yp c)); iexact HR
    iapply (reached_bar (F := F) (xp c)); iexact HR
  isplitl [HO]; · iexists ∅; iexact HO
  iexact Hp

theorem barrier_sems (c : Dev nD) : (unscopedSems0 c : sProp 𝕄) = semVal (barC c) 0 := by
  unfold unscopedSems0
  rw [show (Finset.univ.filter fun sm : SemLoc sig => ¬ sm.isScoped .tc) = {SemLoc.reg barSem} from by decide, BI.bigSep_singleton]

theorem init :
    iprop((bigSep Finset.univ fun c : Dev nD => iprop(unscopedBufs c (fun b => m ((c.tc : Thread nD τ).loc b)) ∗ unscopedSems0 c
          ∗ owes (c.tc : Thread nD τ) (owe₀ c) ∅ ∗ Pipeline.launchCred owe₀ c ∗ prngReg c (ρ c) ∗ atZero (ghost₀ F) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (owe₀ c) ∅ ∗ Pipeline.launchCred owe₀ c ∗ prngReg c (ρ c) ∗ atZero (ghost₀ F) c)
      ⊢ (iprop(bundle m c ∗ (semVal (barC c) 0 ∗ atZero (ghost₀ F) c)) : sProp 𝕄) := by
    rw [barrier_sems]
    unfold bundle
    rw [← Pipeline.unscopedBufs_held (Ix := Unit) (Name := ℕ) (U := UU) (Lvl := ℕ) c (Gen.V0 m c)]
    iintro ⟨Hh, Hus, HO, Hcr, Hp, HG⟩
    ihave Hc := (funded (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => shut F c) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (owe₀ c) ∅ ∗ Pipeline.launchCred owe₀ c ∗ prngReg c (ρ c) ∗ atZero (ghost₀ F) c))
      ⊢ (bigSep Finset.univ fun c : Dev nD => iprop(bundle m c ∗ (semVal (barC c) 0 ∗ atZero (ghost₀ F) c)) : sProp 𝕄) from bigSep_mono fun c _ => hcore c) $$ H
  ihave H2 := apart $$ H'
  icases H2 with ⟨HB, H3⟩
  ihave H4 := apart $$ H3
  icases H4 with ⟨Hv, HG⟩
  ihave Hu := (show bigSep Finset.univ (atZero (ghost₀ F)) ⊢ BI.own (ER (launchOf barCells ownCells allDuties)) from Entails.of_eq (bigSep_atZero (ghost₀ F))) $$ HG
  imod (Rounds.fund_launch ER (rd (W₁ m)) cells_disjoint (fun g _ h => h) allDuties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share F c ∗ bundle m c)) fun c _ => ready m κ c)
  isplitr
  · unfold records invs
    isplitr; · iexact Hinv
    iexact Hr
  iapply together
  isplitr [HB]
  · unfold share
    iapply together; isplitl [Hat]; · iapply hat $$ Hat
    iapply together; isplitl [Hopen]; · iapply hopen $$ Hopen
    iapply (dealt (F := F))
    iapply (Entails.of_eq (minted_eq (F := F))) $$ Htok
  · iexact HB

/-! ## Into the region and out of it -/

theorem arr_sub : Pipeline.arrRefs (τ := τ) spec0 ⊆ Pipeline.ucRefs τ sig := by decide

theorem enter_region (c : Dev nD) : iprop(StableHlo.held (c : Thread nD τ) (Pipeline.ucRefs τ sig) (Gen.V1 m c) ∗ E m 0 c) ⊢ (region m).pre c := by
  show _ ⊢ iprop(StableHlo.held (c.tc : Thread nD τ) (Pipeline.arrRefs (τ := τ) spec0) (W₁ m c) ∗ (∃ r, prngReg c r)
    ∗ (StableHlo.held (c.tc : Thread nD τ) others (W₁ m c) ∗ emp) ∗ kept m c ∗ ∃ Wd, owes (c : Thread nD τ) (0 + owe₀ c) Wd)
  rw [zero_add, StableHlo.held_sub_split (c.tc : Thread nD τ) arr_sub (Gen.V1 m c)]
  unfold E
  rw [if_pos rfl]
  iintro ⟨⟨Ha, Ho⟩, Hk, HO, Hp⟩
  isplitl [Ha]; · iexact Ha
  isplitl [Hp]; · iexact Hp
  isplitl [Ho]
  · isplitl [Ho]; · iexact Ho
    iempintro
  isplitl [Hk] <;> iassumption

theorem leave_region (c : Dev nD) : (region m).post c ⊢ iprop(StableHlo.held (c : Thread nD τ) (Pipeline.ucRefs τ sig) (Gen.V2 m (outs m) c) ∗ E m 1 c) := by
  show iprop(StableHlo.held (c.tc : Thread nD τ) (Pipeline.arrRefs (τ := τ) spec0) (W₂ m c) ∗ (∃ r, prngReg c r)
    ∗ (StableHlo.held (c.tc : Thread nD τ) others (W₂ m c) ∗ emp) ∗ semVal (barC c) 0 ∗ ∃ Wd, owes (c : Thread nD τ) (0 : CellTallies nD τ sig Unit) Wd) ⊢ _
  rw [StableHlo.held_sub_split (c.tc : Thread nD τ) arr_sub (Gen.V2 m (outs m) c)]
  unfold E
  rw [if_neg (by decide)]
  iintro ⟨Ha, -, ⟨Ho, -⟩, Hb, HO⟩
  isplitl [Ha Ho]
  · isplitl [Ha] <;> iassumption
  isplitl [Hb] <;> iassumption

/-- The last host segment's end, as the run states it. -/
theorem finish (c : Dev nD) : iprop(StableHlo.held (c : Thread nD τ) (Pipeline.ucRefs τ sig) (Gen.V3 m (outs m) c) ∗ E m 1 c)
    ⊢ iprop(Tₙ m c ∗ ∃ Wt, owes (c : Thread nD τ) (0 : CellTallies nD τ sig Unit) Wt) := by
  unfold E Tₙ
  rw [if_neg (by decide)]
  iintro ⟨Hh, Hb, HO⟩
  isplitr [HO]
  · isplitl [Hh] <;> iassumption
  iexact HO

/-! ## The run -/

theorem only_barrier : ∀ sm : SemLoc sig, sm.isScoped .tc = false → sm = .reg barSem := by decide

/-- What a final state says of device `c`. -/
def Ends (c : Dev nD) (s : MemSt nD τ sig (Elt F)) : Prop :=
  (s.mem ((c.tc : Thread nD τ).loc main_v43) = Gen.V3 m (outs m) c main_v43
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

theorem ending (c : Dev nD) (s' : Phys nD τ sig (Elt F)) :
    iprop(Tₙ m c ∗ SI s') ⊢ (|={Set.univ}=> iprop(⌜Ends m c s'.mem ∧ s'.mem.sem (barC c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (Gen.V3 m (outs m) c) s') $$ [Hh HSI]
  · isplitl [Hh] <;> iassumption
  icases Hr with ⟨%h, HSI⟩
  imodintro
  isplitr
  · ipureintro
    exact ⟨⟨h (Proc.devRef .tc main_v43) (Finset.mem_filter.mpr ⟨StableHlo.devRef_mem_tcRefs main_v43, by decide⟩),
      (h (Proc.devRef .tc main_arg0) (Finset.mem_filter.mpr ⟨StableHlo.devRef_mem_tcRefs main_arg0, by decide⟩)).trans (Gen.V3_main_arg0 m (outs m) c),
      (h (Proc.devRef .tc main_arg1) (Finset.mem_filter.mpr ⟨StableHlo.devRef_mem_tcRefs main_arg1, by decide⟩)).trans (Gen.V3_main_arg1 m (outs m) c),
      (h (Proc.devRef .tc main_arg2) (Finset.mem_filter.mpr ⟨StableHlo.devRef_mem_tcRefs main_arg2, by decide⟩)).trans (Gen.V3_main_arg2 m (outs m) c),
      (h (Proc.devRef .tc main_arg3) (Finset.mem_filter.mpr ⟨StableHlo.devRef_mem_tcRefs main_arg3, by decide⟩)).trans (Gen.V3_main_arg3 m (outs m) c),
      (h (Proc.devRef .tc main_arg4) (Finset.mem_filter.mpr ⟨StableHlo.devRef_mem_tcRefs main_arg4, by decide⟩)).trans (Gen.V3_main_arg4 m (outs m) c)⟩,
      by simpa using hb⟩
  iexact HSI

set_option backward.isDefEq.respectTransparency.types false in
/-- The run of @main: it ends, with the result at the merged halves, the arguments unchanged and every
    semaphore at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) Gen.adm (pdats m) () Gen.cellOf_inj EP defs₀ 𝒱₀ L lv m ρ main
    (Gen.segs m (outs m) 𝒱₀ L lv (E m) () (pdats m) (region m))
    (fun c Q => by
      rewrite [Gen.main_chain c, Seg.run_eq_chain,
        show (Gen.segs m (outs m) 𝒱₀ L lv (E m) () (pdats m) (region m) c).map Seg.prog = [
          StableHlo.seq (Gen.hostOps0 c),
          Prog.lift (.customCall (Pipeline.entry 0) ()),
          StableHlo.seq Gen.hostOps1 ] from rfl]
      dsimp (config := { failIfUnchanged := false }) only
      exact .rfl)
    (fun c => by simp only [Gen.segs, Seg.pipes_host, Seg.pipes_region, Seg.pipes_nil]; decide)
    owe₀ L_of_ne (atZero (ghost₀ F)) (u₀ F)
    (by
      unfold u₀
      iintro Hu
      ihave H := (ownU_pair _ _) $$ Hu
      icases H with ⟨HP, HX⟩
      imodintro
      isplitl [HP]; · iexact HP
      rw [bigSep_atZero]; unfold ghost₀; iexact HX)
    (T₀ m) (Tₙ m)
    (fun c => ⟨.rfl, enter_region m c, leave_region m c, finish m c⟩)
    (init m ρ)
    (fun c s => Ends m c s ∧ s.sem (barC c) = 0)
    (ending m)
    (fun s h hs => ⟨fun c => (h c).1, sem_eq_zero hs fun c sm hsm => by
      obtain rfl := only_barrier sm hsm
      exact (h c).2⟩)

end Cert.KernelIdeal.Paged

end
-- ==== Proof.Frames.lean ====
/-
  The frames: each program runs from any memory, leaves its arguments unchanged, and every semaphore
  ends at zero. The kernel's two readings are one text over any floats: both come from `run_main`.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Frames

open Idealize.ShloMosaic Idealize.SL.Sem

/-! ## The side conditions of the precondition's copy over the kernel -/

instance facts_kernel : Cert.Pre_served_KernelIdeal.Facts where
  bcast_S256_S1x256_1 := by decide
  bcast_S32_S32x1_0 := by decide
  bcast_S1x256_S32x256_0_1 := by decide
  bcast_S32x1_S32x256_0_1 := by decide
  bcast_S_S32x256 := by decide
  reducesTo_S32x256_S_d0_1 := by decide
  h_S_ := by decide
  bcast_S_S32 := by decide
  reducesTo_S32_S_d0 := by decide
  bcast_S_S32x1x16x128 := by decide
  reducesTo_S32x1x16x128_S_d0_1_2_3 := by decide
  bcast_S_S256x32x16x128 := by decide
  reducesTo_S256x32x16x128_S_d0_1_2_3 := by decide

/-! ## The side conditions of the precondition's copy over the reference -/

instance facts_reference : Cert.Pre_served_ReferenceIdeal.Facts where
  bcast_S256_S1x256_1 := by decide
  bcast_S32_S32x1_0 := by decide
  bcast_S1x256_S32x256_0_1 := by decide
  bcast_S32x1_S32x256_0_1 := by decide
  bcast_S_S32x256 := by decide
  reducesTo_S32x256_S_d0_1 := by decide
  h_S_ := by decide
  bcast_S_S32 := by decide
  reducesTo_S32_S_d0 := by decide
  bcast_S_S32x1x16x128 := by decide
  reducesTo_S32x1x16x128_S_d0_1_2_3 := by decide
  bcast_S_S512x32x16x128 := by decide
  reducesTo_S512x32x16x128_S_d0_1_2_3 := by decide

/-! ## The kernel and its idealization have one text -/

set_option maxRecDepth 10000 in
theorem body_same {F : FTy → Type} [FloatOps F] : Cert.KernelIdeal.defs₀ (F := F) = Cert.Kernel.defs₀ (F := F) := by
  unfold Cert.KernelIdeal.defs₀ Cert.Kernel.defs₀
  refine congrArg Defs.onTc (funext fun l => funext fun a => ?_)
  match l, a with
  | 0, (t, s) => rfl
  | ⟨n + 1, h⟩, _ => exact absurd h (Nat.not_lt.2 (Nat.le_add_left _ _))
theorem defs_same {F : FTy → Type} [FloatOps F] : Cert.KernelIdeal.defs (F := F) = Cert.Kernel.defs (F := F) := by
  unfold Cert.KernelIdeal.defs Cert.Kernel.defs
  exact congrArg (Pipeline.defs (Cert.KernelIdeal.pcfgs (F := F))) body_same
set_option maxRecDepth 10000 in
set_option maxHeartbeats 2000000 in
theorem main_same {F : FTy → Type} [FloatOps F] (c : Dev Cert.Kernel.nD) : Cert.KernelIdeal.main (F := F) c = Cert.Kernel.main (F := F) c := rfl

theorem frame_kernel : Cert.quiescent_Kernel := fun m ρ _ => by
  rw [← defs_same, ← (funext main_same : Cert.KernelIdeal.main (F := Bits) = Cert.Kernel.main (F := Bits))]
  exact (θ_run Cert.KernelIdeal.defs _ _).mono (fun _ h => ⟨fun c => (h.1 c).2, h.2⟩) (Cert.KernelIdeal.Paged.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Paged.run_main (F := Ideal) m ρ)

theorem frame_ideal_served : Cert.quiescent_KernelIdeal_pre_served_KernelIdeal := fun m ρ _ => frame_ideal m ρ trivial

/-- The reference has no semaphore. -/
theorem no_sems : ∀ _ : SemLoc Cert.ReferenceIdeal.sig, False := by decide

theorem frame_reference : Cert.quiescent_ReferenceIdeal := fun m ρ _ =>
  (θ_run Cert.ReferenceIdeal.defs _ _).mono (fun _ h => ⟨fun c => (h c).2, funext fun g => (no_sems g.2).elim⟩)
    (Cert.ReferenceIdeal.Value.run (F := Ideal) m ρ)

theorem frame_reference_served : Cert.quiescent_ReferenceIdeal_pre_served_ReferenceIdeal := fun m ρ _ => frame_reference m ρ trivial

theorem same_text : Cert.preserves_Kernel_KernelIdeal := trivial

end Cert.Frames

end
-- ==== Proof.Arith.lean ====
/-
  The equation behind the value claim, on extended reals, free of buffers and shapes.

  One side sums over all positions of the two halves of the pages, each position weighted by how often its
  page is named, and merges the halves by rescaling to the common maximum (`joined`). The other side
  sums over the entries of the block table, those past the end at minus infinity (`plain`). Both are the same
  weighted mean: the shifts of the exponent cancel, and an entry named `n` times contributes `n` times.
  The scores are real; the values may be infinite, so a factor is only ever taken through a
  sum when it is a real number at least zero.
-/
module

public import Idealize.ShloMosaic.PureOps.Ideal.Laws
public import Mathlib.Tactic.FieldSimp
public import Mathlib.Tactic.Ring

@[expose] public section

noncomputable section

namespace Cert.Arith

open Idealize.ShloMosaic

variable {ι κ : Type} [Fintype ι] [Fintype κ]

/-! ## Sums of extended reals -/

theorem sum_mul_real (s : Finset ι) (f : ι → EReal) {k : ℝ} (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (by exact_mod_cast hk) (EReal.coe_ne_top k) _ _

theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weighted sum times a real number at least zero: the factor goes into the weights. -/
theorem weighted_mul (c : ι → ℝ) (v : ι → EReal) {k : ℝ} (hk : 0 ≤ k) :
    (∑ i, (c i : EReal) * v i) * (k : EReal) = ∑ i, ((c i * k : ℝ) : EReal) * v i := by
  rw [sum_mul_real _ _ hk]
  refine Finset.sum_congr rfl fun i _ => ?_
  rw [EReal.coe_mul, mul_assoc, mul_assoc, mul_comm (v i)]

/-- `n` times a product with a real number. -/
theorem nsmul_weighted (n : ℕ) (c : ℝ) (v : EReal) : n • ((c : EReal) * v) = (((n : ℝ) * c : ℝ) : EReal) * v := by
  rw [EReal.nsmul_eq_mul, EReal.coe_mul, mul_assoc]; rfl

/-! ## Maxima -/

/-- The maximum from minus infinity of values that are below plus infinity, one of them above minus infinity, is real. -/
theorem fold_max_real (f : ι → EReal) (ht : ∀ i, f i ≠ ⊤) (i : ι) (hi : f i ≠ ⊥) :
    ∃ μ : ℝ, (Finset.univ : Finset ι).fold max ⊥ f = (μ : EReal) := by
  have h1 : (Finset.univ : Finset ι).fold max ⊥ f < ⊤ :=
    (Finset.fold_max_lt _).2 ⟨bot_lt_top, fun x _ => lt_top_iff_ne_top.2 (ht x)⟩
  have h2 : ⊥ < (Finset.univ : Finset ι).fold max ⊥ f :=
    (Finset.lt_fold_max _).2 (Or.inr ⟨i, Finset.mem_univ i, bot_lt_iff_ne_bot.2 hi⟩)
  exact ⟨_, (EReal.coe_toReal h1.ne h2.ne').symm⟩

/-! ## The side that sums over all positions -/

/-- The score of a position: `neg` where nobody names its page. -/
def masked (neg : EReal) (s w : ι → EReal) (i : ι) : EReal := if 0 < w i then s i else neg
def top (neg : EReal) (s w : ι → EReal) : EReal := (Finset.univ : Finset ι).fold max ⊥ (masked neg s w)
def expw (neg : EReal) (s w : ι → EReal) (i : ι) : EReal := Ideal.exp (masked neg s w i - top neg s w) * w i
def tot (neg : EReal) (s w : ι → EReal) : EReal := ∑ i, expw neg s w i
def acc (neg : EReal) (s w v : ι → EReal) : EReal := ∑ i, expw neg s w i * v i

/-- The merge of two halves. -/
def joined (neg : EReal) (s₀ w₀ v₀ s₁ w₁ v₁ : ι → EReal) : EReal :=
  Ideal.div
    (acc neg s₀ w₀ v₀ * Ideal.exp (top neg s₀ w₀ - max (top neg s₀ w₀) (top neg s₁ w₁))
      + acc neg s₁ w₁ v₁ * Ideal.exp (top neg s₁ w₁ - max (top neg s₀ w₀) (top neg s₁ w₁)))
    (tot neg s₀ w₀ * Ideal.exp (top neg s₀ w₀ - max (top neg s₀ w₀) (top neg s₁ w₁))
      + tot neg s₁ w₁ * Ideal.exp (top neg s₁ w₁ - max (top neg s₀ w₀) (top neg s₁ w₁)))

section Half
variable [Nonempty ι] (neg : ℝ) (s w v : ι → EReal) (σ : ι → ℝ) (n : ι → ℕ)
  (hs : ∀ i, s i = (σ i : EReal)) (hw : ∀ i, w i = ((n i : ℝ) : EReal))
include hs hw

theorem masked_real (i : ι) : masked (neg : EReal) s w i = ((if 0 < n i then σ i else neg : ℝ) : EReal) := by
  unfold masked
  rw [hw, hs]
  have : (0 : EReal) < ((n i : ℝ) : EReal) ↔ 0 < n i := by
    rw [show (0 : EReal) = ((0 : ℝ) : EReal) from rfl, EReal.coe_lt_coe_iff, Nat.cast_pos]
  by_cases h : 0 < n i
  · rw [if_pos (this.2 h), if_pos h]
  · rw [if_neg (fun h' => h (this.1 h')), if_neg h]

theorem top_real : ∃ μ : ℝ, top (neg : EReal) s w = (μ : EReal) := by
  obtain ⟨i⟩ := ‹Nonempty ι›
  refine fold_max_real _ (fun i => ?_) i ?_ <;> rw [masked_real neg s w σ n hs hw]
  · exact EReal.coe_ne_top _
  · exact EReal.coe_ne_bot _

/-- The rescaled exponential of a position. -/
theorem expw_real {μ : ℝ} (hμ : top (neg : EReal) s w = (μ : EReal)) (i : ι) :
    expw (neg : EReal) s w i = ((Real.exp (σ i - μ) * n i : ℝ) : EReal) := by
  unfold expw
  rw [masked_real neg s w σ n hs hw, hμ, hw, ← EReal.coe_sub, Ideal.exp_coe, ← EReal.coe_mul]
  by_cases h : 0 < n i
  · rw [if_pos h]
  · rw [Nat.eq_zero_of_not_pos h]; simp

theorem acc_shift {μ ν : ℝ} (hμ : top (neg : EReal) s w = (μ : EReal)) :
    acc (neg : EReal) s w v * Ideal.exp ((μ : EReal) - (ν : EReal))
      = ∑ i, ((Real.exp (σ i) * n i * Real.exp (-ν) : ℝ) : EReal) * v i := by
  unfold acc
  rw [← EReal.coe_sub, Ideal.exp_coe]
  simp only [expw_real neg s w σ n hs hw hμ]
  rw [weighted_mul _ _ (Real.exp_pos _).le]
  refine Finset.sum_congr rfl fun i _ => ?_
  congr 2
  rw [mul_right_comm, ← Real.exp_add, mul_right_comm, ← Real.exp_add]
  congr 2; ring

theorem tot_shift {μ ν : ℝ} (hμ : top (neg : EReal) s w = (μ : EReal)) :
    tot (neg : EReal) s w * Ideal.exp ((μ : EReal) - (ν : EReal))
      = (((∑ i, Real.exp (σ i) * n i) * Real.exp (-ν) : ℝ) : EReal) := by
  unfold tot
  rw [← EReal.coe_sub, Ideal.exp_coe]
  simp only [expw_real neg s w σ n hs hw hμ]
  rw [← coe_sum, ← EReal.coe_mul]
  congr 1
  rw [Finset.sum_mul, Finset.sum_mul]
  refine Finset.sum_congr rfl fun i _ => ?_
  rw [mul_right_comm, ← Real.exp_add, mul_right_comm, ← Real.exp_add]
  congr 2; ring

end Half

/-- The merge is the weighted mean over both halves. -/
theorem joined_eq [Nonempty ι] (neg : ℝ) (s₀ w₀ v₀ s₁ w₁ v₁ : ι → EReal) (σ₀ σ₁ : ι → ℝ) (n₀ n₁ : ι → ℕ)
    (hs₀ : ∀ i, s₀ i = (σ₀ i : EReal)) (hw₀ : ∀ i, w₀ i = ((n₀ i : ℝ) : EReal))
    (hs₁ : ∀ i, s₁ i = (σ₁ i : EReal)) (hw₁ : ∀ i, w₁ i = ((n₁ i : ℝ) : EReal))
    (L : ℝ) (hL : L = ∑ i, Real.exp (σ₀ i) * n₀ i + ∑ i, Real.exp (σ₁ i) * n₁ i) (hpos : 0 < L) :
    joined (neg : EReal) s₀ w₀ v₀ s₁ w₁ v₁
      = ∑ i, ((Real.exp (σ₀ i) * n₀ i / L : ℝ) : EReal) * v₀ i
        + ∑ i, ((Real.exp (σ₁ i) * n₁ i / L : ℝ) : EReal) * v₁ i := by
  obtain ⟨μ₀, h₀⟩ := top_real neg s₀ w₀ σ₀ n₀ hs₀ hw₀
  obtain ⟨μ₁, h₁⟩ := top_real neg s₁ w₁ σ₁ n₁ hs₁ hw₁
  unfold joined
  have hmax : max (top (neg : EReal) s₀ w₀) (top (neg : EReal) s₁ w₁) = ((max μ₀ μ₁ : ℝ) : EReal) := by
    rw [h₀, h₁]; exact (EReal.coe_strictMono.monotone.map_max).symm
  rw [hmax]
  generalize max μ₀ μ₁ = ν
  rw [h₀, h₁, acc_shift neg s₀ w₀ v₀ σ₀ n₀ hs₀ hw₀ h₀, acc_shift neg s₁ w₁ v₁ σ₁ n₁ hs₁ hw₁ h₁,
    tot_shift neg s₀ w₀ σ₀ n₀ hs₀ hw₀ h₀, tot_shift neg s₁ w₁ σ₁ n₁ hs₁ hw₁ h₁, ← EReal.coe_add, ← add_mul, ← hL]
  have hE := Real.exp_pos (-ν)
  have hD : 0 < L * Real.exp (-ν) := mul_pos hpos hE
  rw [Ideal.div_coe hD.ne']
  have hk : 0 ≤ 1 / (L * Real.exp (-ν)) := (one_div_pos.2 hD).le
  rw [EReal.right_distrib_of_nonneg_of_ne_top (by exact_mod_cast hk) (EReal.coe_ne_top _), weighted_mul _ _ hk, weighted_mul _ _ hk]
  congr 1 <;>
  · refine Finset.sum_congr rfl fun i _ => ?_
    congr 2
    field_simp

/-! ## The side that sums over the entries of the block table -/

def gated (ok : κ → Prop) [DecidablePred ok] (s : κ → EReal) (i : κ) : EReal := if ok i then s i else ⊥
def peaked (ok : κ → Prop) [DecidablePred ok] (s : κ → EReal) : EReal := (Finset.univ : Finset κ).fold max ⊥ (gated ok s)
def expg (ok : κ → Prop) [DecidablePred ok] (s : κ → EReal) (i : κ) : EReal := Ideal.exp (gated ok s i - peaked ok s)

/-- The softmax of the gated scores against the values. -/
def plain (ok : κ → Prop) [DecidablePred ok] (s v : κ → EReal) : EReal :=
  ∑ i, v i * Ideal.div (expg ok s i) (∑ i, expg ok s i)

theorem plain_eq (ok : κ → Prop) [DecidablePred ok] (s v : κ → EReal) (σ : κ → ℝ) (hs : ∀ i, ok i → s i = (σ i : EReal))
    (hsome : ∃ i, ok i) (L : ℝ) (hL : L = ∑ i, if ok i then Real.exp (σ i) else 0) :
    plain ok s v = ∑ i, (((if ok i then Real.exp (σ i) else 0) / L : ℝ) : EReal) * v i ∧ 0 < L := by
  obtain ⟨i₀, hi₀⟩ := hsome
  have hg (i : κ) (h : ok i) : gated ok s i = (σ i : EReal) := by unfold gated; rw [if_pos h, hs i h]
  have hg' (i : κ) (h : ¬ ok i) : gated ok s i = ⊥ := if_neg h
  obtain ⟨μ, hμ⟩ : ∃ μ : ℝ, peaked ok s = (μ : EReal) := by
    refine fold_max_real _ (fun i => ?_) i₀ ?_
    · by_cases h : ok i
      · rw [hg i h]; exact EReal.coe_ne_top _
      · rw [hg' i h]; exact bot_ne_top
    · rw [hg _ hi₀]; exact EReal.coe_ne_bot _
  have he (i : κ) : expg ok s i = (((if ok i then Real.exp (σ i) else 0) * Real.exp (-μ) : ℝ) : EReal) := by
    unfold expg
    rw [hμ]
    by_cases h : ok i
    · rw [hg i h, if_pos h, ← EReal.coe_sub, Ideal.exp_coe, ← Real.exp_add, sub_eq_add_neg]
    · rw [hg' i h, if_neg h, zero_mul]
      exact congrArg Ideal.exp (EReal.bot_sub (μ : EReal))
  have hpos : 0 < L := by
    rw [hL]
    refine Finset.sum_pos' (fun i _ => ?_) ⟨i₀, Finset.mem_univ _, ?_⟩
    · by_cases h : ok i
      · rw [if_pos h]; exact (Real.exp_pos _).le
      · rw [if_neg h]
    · rw [if_pos hi₀]; exact Real.exp_pos _
  refine ⟨?_, hpos⟩
  have hE := Real.exp_pos (-μ)
  have hD : 0 < L * Real.exp (-μ) := mul_pos hpos hE
  unfold plain
  have hsum : (∑ i, expg ok s i) = ((L * Real.exp (-μ) : ℝ) : EReal) := by
    rw [Finset.sum_congr rfl fun i _ => he i, ← coe_sum, ← Finset.sum_mul, ← hL]
  rw [hsum]
  refine Finset.sum_congr rfl fun i _ => ?_
  rw [he, Ideal.div_coe hD.ne', ← EReal.coe_mul, mul_comm (v i)]
  congr 2
  field_simp

/-! ## Counting -/

/-- How often the entries in use name page `g`. -/
def named {J G : Type} [Fintype J] [DecidableEq G] (ok : J → Prop) [DecidablePred ok] (pg : J → G) (g : G) : ℕ :=
  (Finset.univ.filter fun j => ok j ∧ pg j = g).card

/-- A sum over the entries in use of what their page contributes, collected by page. -/
theorem sum_named {J G M : Type} [Fintype J] [Fintype G] [DecidableEq G] [AddCommMonoid M] (ok : J → Prop) [DecidablePred ok]
    (pg : J → G) (f : G → M) : (∑ j, if ok j then f (pg j) else 0) = ∑ g, named ok pg g • f g := by
  rw [← Finset.sum_filter, ← Finset.sum_fiberwise (Finset.univ.filter ok) pg]
  refine Finset.sum_congr rfl fun g _ => ?_
  unfold named
  rw [← Finset.sum_const, Finset.filter_filter]
  refine Finset.sum_congr rfl fun j hj => ?_
  rw [(Finset.mem_filter.1 hj).2.2]

/-! ## Positions -/

/-- The page and the row of position `t` of half `y`. -/
def pageOf (y : Fin 2) (t : Fin 8192) : Fin 512 := ⟨256 * y.val + t.val / 32, by omega⟩
def rowOf (t : Fin 8192) : Fin 32 := ⟨t.val % 32, by omega⟩

/-- A sum over all pages and rows is a sum over the positions of either half and of the other. -/
theorem sum_halves {M : Type} [AddCommMonoid M] (f : Fin 512 → Fin 32 → M) (y : Fin 2) :
    ∑ g, ∑ r, f g r = ∑ t, f (pageOf y t) (rowOf t) + ∑ t, f (pageOf (1 - y) t) (rowOf t) := by
  have half (y : Fin 2) : ∑ t, f (pageOf y t) (rowOf t) = ∑ p : Fin 256, ∑ r, f ⟨256 * y.val + p.val, by omega⟩ r := by
    rw [← Fintype.sum_prod_type' (f := fun (p : Fin 256) r => f ⟨256 * y.val + p.val, by omega⟩ r)]
    exact Fintype.sum_equiv (finProdFinEquiv (m := 256) (n := 32)).symm _ _ fun t => rfl
  have both : ∑ g, ∑ r, f g r = ∑ t, f (pageOf 0 t) (rowOf t) + ∑ t, f (pageOf 1 t) (rowOf t) := by
    rw [half, half, Fin.sum_univ_add (a := 256) (b := 256) fun g : Fin 512 => ∑ r, f g r]
    congr 1
  match y with
  | 0 => exact both
  | 1 => rw [add_comm]; exact both

/-! ## The two sides agree -/

/-- Half `y` and the other half, merged, are the softmax over the entries. -/
theorem agree (neg : ℝ) (y : Fin 2) (ok : Fin 256 → Prop) [DecidablePred ok] (pg : Fin 256 → Fin 512)
    (hsome : ∃ j, ok j) (x : Fin 512 → Fin 32 → ℝ) (V : Fin 512 → Fin 32 → EReal)
    (s₀ w₀ v₀ s₁ w₁ v₁ : Fin 8192 → EReal) (s v : Fin 256 × Fin 32 → EReal)
    (hs₀ : ∀ t, s₀ t = (x (pageOf y t) (rowOf t) : EReal)) (hw₀ : ∀ t, w₀ t = ((named ok pg (pageOf y t) : ℝ) : EReal))
    (hv₀ : ∀ t, v₀ t = V (pageOf y t) (rowOf t))
    (hs₁ : ∀ t, s₁ t = (x (pageOf (1 - y) t) (rowOf t) : EReal)) (hw₁ : ∀ t, w₁ t = ((named ok pg (pageOf (1 - y) t) : ℝ) : EReal))
    (hv₁ : ∀ t, v₁ t = V (pageOf (1 - y) t) (rowOf t))
    (hs : ∀ i, ok i.1 → s i = (x (pg i.1) i.2 : EReal)) (hv : ∀ i, v i = V (pg i.1) i.2) :
    joined (neg : EReal) s₀ w₀ v₀ s₁ w₁ v₁ = plain (fun i : Fin 256 × Fin 32 => ok i.1) s v := by
  obtain ⟨j₀, hj₀⟩ := hsome
  obtain ⟨hp, hpos⟩ := plain_eq (fun i : Fin 256 × Fin 32 => ok i.1) s v (fun i => x (pg i.1) i.2) hs ⟨(j₀, 0), hj₀⟩ _ rfl
  generalize hL : (∑ i : Fin 256 × Fin 32, if ok i.1 then Real.exp (x (pg i.1) i.2) else 0) = L at hp hpos
  have hL' : L = ∑ t, Real.exp (x (pageOf y t) (rowOf t)) * named ok pg (pageOf y t)
      + ∑ t, Real.exp (x (pageOf (1 - y) t) (rowOf t)) * named ok pg (pageOf (1 - y) t) := by
    rw [← sum_halves (fun g r => Real.exp (x g r) * (named ok pg g : ℝ)) y, Finset.sum_comm, ← hL,
      Fintype.sum_prod_type_right]
    refine Finset.sum_congr rfl fun r _ => ?_
    rw [sum_named ok pg fun g => Real.exp (x g r)]
    refine Finset.sum_congr rfl fun g _ => ?_
    rw [nsmul_eq_mul, mul_comm]
  rw [joined_eq neg s₀ w₀ v₀ s₁ w₁ v₁ _ _ _ _ hs₀ hw₀ hs₁ hw₁ L hL' hpos, hp]
  simp only [hv₀, hv₁, hv]
  rw [← sum_halves (fun g r => ((Real.exp (x g r) * (named ok pg g : ℝ) / L : ℝ) : EReal) * V g r) y,
    Finset.sum_comm, Fintype.sum_prod_type_right]
  refine Finset.sum_congr rfl fun r _ => ?_
  have hterm (j : Fin 256) : (((if ok j then Real.exp (x (pg j) r) else 0) / L : ℝ) : EReal) * V (pg j) r
      = if ok j then ((Real.exp (x (pg j) r) / L : ℝ) : EReal) * V (pg j) r else 0 := by
    by_cases h : ok j
    · rw [if_pos h, if_pos h]
    · rw [if_neg h, if_neg h, zero_div, EReal.coe_zero, zero_mul]
  rw [Finset.sum_congr rfl fun j _ => hterm j, sum_named ok pg fun g => ((Real.exp (x g r) / L : ℝ) : EReal) * V g r]
  refine Finset.sum_congr rfl fun g _ => ?_
  rw [nsmul_weighted]
  congr 2
  ring

end Cert.Arith

end
-- ==== Proof.KernelAt.lean ====
/-
  What the kernel leaves, read at one element, over the extended reals.

  Element (head, request, lane) of the half that device `c` merges is `Cert.Arith.joined` of the scores, weights
  and values of device `c` and of its peer along `y`.
-/
module

public import proofs.«01_k».proof.Proof.Sched
public import proofs.«01_k».proof.Proof.Arith
public import Idealize.ShloMosaic.Lib.Pointwise

@[expose] public section

set_option maxRecDepth 16384

noncomputable section

namespace Cert.KernelIdeal.Paged

open Idealize.ShloMosaic Idealize.ShloMosaic.TcCoe Idealize.SL.Sem Cert.KernelIdeal Cert.KernelIdeal.Facts₀ Cert.KernelIdeal.Facts

/-! ## The body's pure steps -/

theorem scores_apply (q : FVec Ideal S1x32x128 .f32) (k : FVec Ideal S1x8192x128 .f32) (w : FVec Ideal S32x8192 .f32) (b : Fin 32) (t : Fin 8192) :
    (scores (F := Ideal) q k w : S32x8192.Idx → EReal) (ix2 b t)
      = if 0 < w (ix2 b t) then (∑ x, q (ix3 0 b x) * k (ix3 0 t x)) * Ideal.ofBits .f32 0x3DB504F3#32 else Ideal.ofBits .f32 0xF149F2CA#32 := by
  pointwise [scores]
theorem peak_apply (s : FVec Ideal S32x8192 .f32) (b : Fin 32) :
    (peak (F := Ideal) s : S32x1.Idx → EReal) (ix2 b 0) = (Finset.univ : Finset (Fin 8192)).fold max (Ideal.ofBits .f32 0xFF800000#32) fun t => s (ix2 b t) := by
  pointwise [peak]
theorem expo_apply (s w : FVec Ideal S32x8192 .f32) (b : Fin 32) (t : Fin 8192) :
    (expo (F := Ideal) s w : S32x8192.Idx → EReal) (ix2 b t) = Ideal.exp (s (ix2 b t) - (peak (F := Ideal) s : S32x1.Idx → EReal) (ix2 b 0)) * w (ix2 b t) := by
  pointwise [expo]
theorem total_apply (s : FVec Ideal S32x8192 .f32) (b : Fin 32) : (total (F := Ideal) s : S32x1.Idx → EReal) (ix2 b 0) = ∑ t, s (ix2 b t) := by
  pointwise [total]
theorem accum_apply (e : FVec Ideal S32x8192 .f32) (v : FVec Ideal S1x8192x128 .f32) (b : Fin 32) (d : Fin 128) :
    (accum (F := Ideal) e v : S1x1x32x128.Idx → EReal) (ix4 0 0 b d) = ∑ t, e (ix2 b t) * v (ix3 0 t d) := by
  pointwise [accum]
theorem spread_apply (x : FVec Ideal S32x1 .f32) (b : Fin 32) (d : Fin 128) : (spread (F := Ideal) x : S1x1x32x128.Idx → EReal) (ix4 0 0 b d) = x (ix2 b 0) := by
  pointwise [spread]
theorem merged_apply (m₀ m₁ l₀ l₁ a₀ a₁ : FVec Ideal S8x1x32x128 .f32) (h : Fin 8) (b : Fin 32) (d : Fin 128) :
    (merged (F := Ideal) m₀ m₁ l₀ l₁ a₀ a₁ : S8x32x128.Idx → EReal) (ix3 h b d)
      = Ideal.div
        (a₀ (ix4 h 0 b d) * Ideal.exp (m₀ (ix4 h 0 b d) - max (m₀ (ix4 h 0 b d)) (m₁ (ix4 h 0 b d)))
          + a₁ (ix4 h 0 b d) * Ideal.exp (m₁ (ix4 h 0 b d) - max (m₀ (ix4 h 0 b d)) (m₁ (ix4 h 0 b d))))
        (l₀ (ix4 h 0 b d) * Ideal.exp (m₀ (ix4 h 0 b d) - max (m₀ (ix4 h 0 b d)) (m₁ (ix4 h 0 b d)))
          + l₁ (ix4 h 0 b d) * Ideal.exp (m₁ (ix4 h 0 b d) - max (m₀ (ix4 h 0 b d)) (m₁ (ix4 h 0 b d)))) := by
  pointwise [merged]

/-! ## The loads -/

section Loads
variable (W : Dev nD → Valuation τ sig (Elt Ideal))

theorem wl_eq (c : Dev nD) : (wl W c : S32x8192.Idx → EReal) = wv W c := by
  unfold wl
  refine (shapeCast_self _ _).trans ?_
  exact funext fun i => congrArg (wv W c : S32x8192.Idx → EReal)
    (funext fun a => Fin.ext (match a with
      | ⟨0, _⟩ => (by show 0 + 1 * (i 0).val = (i 0).val; omega)
      | ⟨1, _⟩ => (by show 0 + 1 * (i 1).val = (i 1).val; omega)))

theorem ql_apply (c : Dev nD) (h : Fin 8) (b : Fin 32) (x : Fin 128) :
    (ql W c h : S1x32x128.Idx → EReal) (ix3 0 b x) = (qv W c : S8x32x128.Idx → EReal) (ix3 h b x) :=
  congrArg (qv W c : S8x32x128.Idx → EReal)
    (funext fun a => Fin.ext (match a with
      | ⟨0, _⟩ => (by show h.val + 1 * 0 = h.val; omega)
      | ⟨1, _⟩ => (by show 0 + 1 * b.val = b.val; omega)
      | ⟨2, _⟩ => (by show 0 + 1 * x.val = x.val; omega)))

theorem slot_emb (s : Fin 2) (t : Fin 8192) (x : Fin 128) : (slotRect s).emb (ix3 0 t x) = ix3 s t x :=
  funext fun a => Fin.ext (match a with
    | ⟨0, _⟩ => (by show s.val + 1 * 0 = s.val; omega)
    | ⟨1, _⟩ => (by show 0 + 1 * t.val = t.val; omega)
    | ⟨2, _⟩ => (by show 0 + 1 * x.val = x.val; omega))

theorem kl_apply (c : Dev nD) (h : Fin 8) (t : Fin 8192) (x : Fin 128) :
    (kl W c h : S1x8192x128.Idx → EReal) (ix3 0 t x) = (kv W c : S8192x16x128.Idx → EReal) (ix3 t (headOf c h) x) :=
  (congrArg (kf W c h : S2x8192x128.Idx → EReal) (slot_emb (slotOf h) t x)).trans
    (congrArg (kv W c : S8192x16x128.Idx → EReal) (ix3_eq_valueIdx t (headOf c h) x).symm)
theorem vl_apply (c : Dev nD) (h : Fin 8) (t : Fin 8192) (x : Fin 128) :
    (vl W c h : S1x8192x128.Idx → EReal) (ix3 0 t x) = (vv W c : S8192x16x128.Idx → EReal) (ix3 t (headOf c h) x) :=
  (congrArg (vf W c h : S2x8192x128.Idx → EReal) (slot_emb (slotOf h) t x)).trans
    (congrArg (vv W c : S8192x16x128.Idx → EReal) (ix3_eq_valueIdx t (headOf c h) x).symm)

theorem all_emb (j : Fin 3) (h : Fin 8) (b : Fin 32) (d : Fin 128) : (allRect j).emb (ix4 h 0 b d) = ix4 h j b d :=
  funext fun a => Fin.ext (match a with
    | ⟨0, _⟩ => (by show 0 + 1 * h.val = h.val; omega)
    | ⟨1, _⟩ => (by show j.val + 1 * 0 = j.val; omega)
    | ⟨2, _⟩ => (by show 0 + 1 * b.val = b.val; omega)
    | ⟨3, _⟩ => (by show 0 + 1 * d.val = d.val; omega))

theorem pl_apply (c : Dev nD) (j : Fin 3) (h : Fin 8) (b : Fin 32) (d : Fin 128) :
    (pl (pk W c) j : S8x1x32x128.Idx → EReal) (ix4 h 0 b d) = (part W c h j : S1x1x32x128.Idx → EReal) (ix4 0 0 b d) :=
  (congrArg (pk W c : S8x3x32x128.Idx → EReal) (all_emb j h b d)).trans
    (congrArg (part W c h j : S1x1x32x128.Idx → EReal) (ix4_eq_valueIdx 0 0 b d).symm)
theorem cl_apply (c : Dev nD) (j : Fin 3) (h : Fin 8) (b : Fin 32) (d : Fin 128) :
    (cl (pk W c) j : S8x1x32x128.Idx → EReal) (ix4 h 0 b d) = (part W c h j : S1x1x32x128.Idx → EReal) (ix4 0 0 b d) :=
  (congrArg (pk W c : S8x3x32x128.Idx → EReal) (all_emb j h b d)).trans
    (congrArg (part W c h j : S1x1x32x128.Idx → EReal) (ix4_eq_valueIdx 0 0 b d).symm)

/-! ## One head of one device -/

/-- The score of position `t` for request `b`, the weight of the position, and its value at lane `d`. -/
def sAt (c : Dev nD) (h : Fin 8) (b : Fin 32) (t : Fin 8192) : EReal :=
  (∑ x : Fin 128, (qv W c : S8x32x128.Idx → EReal) (ix3 h b x) * (kv W c : S8192x16x128.Idx → EReal) (ix3 t (headOf c h) x))
    * Ideal.ofBits .f32 0x3DB504F3#32
def wAt (c : Dev nD) (b : Fin 32) (t : Fin 8192) : EReal := (wv W c : S32x8192.Idx → EReal) (ix2 b t)
def vAt (c : Dev nD) (h : Fin 8) (d : Fin 128) (t : Fin 8192) : EReal := (vv W c : S8192x16x128.Idx → EReal) (ix3 t (headOf c h) d)

abbrev NEG : EReal := Ideal.ofBits .f32 0xF149F2CA#32

theorem bot_bits : Ideal.ofBits .f32 0xFF800000#32 = ⊥ := by simp [Ideal.ofBits, Ideal.ieee]
theorem top_bits : Ideal.ofBits .f32 0x7F800000#32 = ⊤ := by simp [Ideal.ofBits, Ideal.ieee]
theorem neg_bits : ∃ r : ℝ, NEG = (r : EReal) := by
  simp only [NEG, Ideal.ofBits, Ideal.ieee]
  rw [if_neg (by decide), if_neg (by decide)]
  exact ⟨_, rfl⟩
theorem scale_bits : ∃ r : ℝ, Ideal.ofBits .f32 0x3DB504F3#32 = (r : EReal) := by simp [Ideal.ofBits, Ideal.ieee, -EReal.coe_mul]

theorem scores_at (c : Dev nD) (h : Fin 8) (b : Fin 32) (t : Fin 8192) :
    (scores (F := Ideal) (ql W c h) (kl W c h) (wl W c) : S32x8192.Idx → EReal) (ix2 b t)
      = Cert.Arith.masked NEG (sAt W c h b) (wAt W c b) t := by
  rw [scores_apply, wl_eq]
  simp only [ql_apply, kl_apply]
  rfl

theorem peak_at (c : Dev nD) (h : Fin 8) (b : Fin 32) :
    (peak (F := Ideal) (scores (ql W c h) (kl W c h) (wl W c)) : S32x1.Idx → EReal) (ix2 b 0)
      = Cert.Arith.top NEG (sAt W c h b) (wAt W c b) := by
  rw [peak_apply, bot_bits]
  simp only [scores_at]
  rfl

theorem expo_at (c : Dev nD) (h : Fin 8) (b : Fin 32) (t : Fin 8192) :
    (expo (F := Ideal) (scores (ql W c h) (kl W c h) (wl W c)) (wl W c) : S32x8192.Idx → EReal) (ix2 b t)
      = Cert.Arith.expw NEG (sAt W c h b) (wAt W c b) t := by
  rw [expo_apply, peak_at, scores_at, wl_eq]
  rfl

theorem part_acc (c : Dev nD) (h : Fin 8) (b : Fin 32) (d : Fin 128) :
    (part W c h 0 : S1x1x32x128.Idx → EReal) (ix4 0 0 b d) = Cert.Arith.acc NEG (sAt W c h b) (wAt W c b) (vAt W c h d) := by
  refine (accum_apply _ _ b d).trans ?_
  simp only [expo_at, vl_apply]
  rfl
theorem part_top (c : Dev nD) (h : Fin 8) (b : Fin 32) (d : Fin 128) :
    (part W c h 1 : S1x1x32x128.Idx → EReal) (ix4 0 0 b d) = Cert.Arith.top NEG (sAt W c h b) (wAt W c b) :=
  (spread_apply _ b d).trans (peak_at W c h b)
theorem part_tot (c : Dev nD) (h : Fin 8) (b : Fin 32) (d : Fin 128) :
    (part W c h 2 : S1x1x32x128.Idx → EReal) (ix4 0 0 b d) = Cert.Arith.tot NEG (sAt W c h b) (wAt W c b) := by
  refine (spread_apply _ b d).trans ((total_apply _ b).trans ?_)
  simp only [expo_at]
  rfl

/-- The half that device `c` merges. -/
theorem half_apply (c : Dev nD) (h : Fin 8) (b : Fin 32) (d : Fin 128) :
    (half W c : S8x32x128.Idx → EReal) (ix3 h b d)
      = Cert.Arith.joined NEG (sAt W c h b) (wAt W c b) (vAt W c h d) (sAt W (yp c) h b) (wAt W (yp c) b) (vAt W (yp c) h d) := by
  unfold half
  rw [merged_apply]
  simp only [pl_apply, cl_apply, part_acc, part_top, part_tot]
  rfl

end Loads

end Cert.KernelIdeal.Paged

end
-- ==== Proof.HostAt.lean ====
/-
  What the host part of the kernel's program leaves for the kernel and makes of its output, read at one
  element, over the extended reals.
-/
module

public import proofs.«01_k».proof.Proof.Region
public import proofs.«01_k».proof.Proof.KernelAt
public import Idealize.ShloMosaic.Lib.StableHlo.ReadAt

@[expose] public section

set_option maxRecDepth 16384

noncomputable section

namespace Cert.KernelIdeal.Paged

open Idealize.ShloMosaic Idealize.ShloMosaic.TcCoe Idealize.SL.Sem Cert.KernelIdeal Cert.KernelIdeal.Facts₀ Cert.KernelIdeal.Facts

variable (m : (ℓ : Loc nD τ sig) → Buf (Elt Ideal) ℓ)

/-- The launch contents of the arguments. -/
def Qm (c : Dev nD) : S32x1x16x128.Idx → EReal := m ((c.tc : Thread nD τ).loc main_arg0)
def Km (c : Dev nD) : S256x32x16x128.Idx → EReal := m ((c.tc : Thread nD τ).loc main_arg1)
def Vm (c : Dev nD) : S256x32x16x128.Idx → EReal := m ((c.tc : Thread nD τ).loc main_arg2)
def Bt (c : Dev nD) : S32x256.Idx → BitVec 32 := m ((c.tc : Thread nD τ).loc main_arg3)
def Ln (c : Dev nD) : S32.Idx → BitVec 32 := m ((c.tc : Thread nD τ).loc main_arg4)

/-- The word of the first page that device `c` holds. -/
theorem first_page (c : Dev nD) :
    IntOp.muli (id (Host.remui (Host.divui (constantI S_ 32 c.word) (constantI S_ 32 1#32)) (constantI S_ 32 2#32)) ix0) 256#32
      = BitVec.ofNat 32 (256 * (c.val % 2)) := by
  revert c; decide

/-- Two tests, joined and converted: one when both hold, else zero. -/
theorem counted (u v p q : BitVec 32) :
    (FloatOps.sitofp (F := Ideal) .f32 (BitVec.setWidth 32 (IntOp.andi (IntOp.cmpi .eq u v) (IntOp.cmpi .slt p q))) : EReal)
      = if u = v ∧ p.slt q = true then (1 : EReal) else 0 := by
  show (((BitVec.setWidth 32 (BitVec.ofBool (u == v) &&& BitVec.ofBool (p.slt q))).toInt : ℝ) : EReal) = _
  have hb : (u == v) = decide (u = v) := rfl
  rw [hb]
  by_cases h : u = v <;> cases hp : p.slt q <;> simp [h]

theorem w_apply (c : Dev nD) (b : Fin 32) (t : Fin 8192) :
    wAt (W₁ m) c b t = ∑ j : Fin 256, if Bt m c (ix2 b j) = BitVec.ofNat 32 (256 * (c.val % 2) + t.val / 32)
      ∧ (BitVec.ofNat 32 j.val).slt (Ln m c (ix1 b)) = true then (1 : EReal) else 0 := by
  show (Gen.V1 m c main_v31 : S32x8192.Idx → EReal) (ix2 b t) = _
  unfold Gen.V1
  after_reads_at
  refine Finset.sum_congr rfl fun j _ => ?_
  refine (counted _ _ _ _).trans ?_
  rw [first_page, IntOp.addi, ← BitVec.ofNat_add]
  rfl

theorem k_apply (c : Dev nD) (t : Fin 8192) (h : Fin 16) (x : Fin 128) :
    (kv (W₁ m) c : S8192x16x128.Idx → EReal) (ix3 t h x) = Km m c (ix4 ⟨t.val / 32, by omega⟩ ⟨t.val % 32, by omega⟩ h x) := by
  show (Gen.V1 m c main_v39 : S8192x16x128.Idx → EReal) (ix3 t h x) = _
  unfold Gen.V1
  after_reads_at
  rfl
theorem v_apply (c : Dev nD) (t : Fin 8192) (h : Fin 16) (x : Fin 128) :
    (vv (W₁ m) c : S8192x16x128.Idx → EReal) (ix3 t h x) = Vm m c (ix4 ⟨t.val / 32, by omega⟩ ⟨t.val % 32, by omega⟩ h x) := by
  show (Gen.V1 m c main_v40 : S8192x16x128.Idx → EReal) (ix3 t h x) = _
  unfold Gen.V1
  after_reads_at
  rfl

/-- The first head of device `c`'s half, as the host computes it. -/
theorem first_head (c : Dev nD) :
    (StableHlo.upto (Gen.hostOps0 c) (Gen.V0 m c) 48 main_v37 : S_.Idx → BitVec 32) (Shape.Idx.first Gen.h_S_) = BitVec.ofNat 32 (8 * (c.val / 2)) := by
  unfold StableHlo.upto
  simp only [Gen.hostOps0, List.take_succ_cons, List.take_zero]
  after_reads_at
  revert c
  decide
/-- The start of a slice of eight heads out of sixteen, where it is given in range. -/
theorem clamp_head (n : ℕ) (hn : n ≤ 8) (start : Fin 3 → Int) (h0 : start 0 = n) :
    Host.clampedStart S16x32x128 S8x32x128 rfl start 0 = n := by
  unfold Host.clampedStart
  rw [h0]
  show (min (max (n : Int) 0) ((16 - 8 : ℕ) : Int)).toNat = n
  omega
theorem clamp_rest (a : Fin 3) (ha : a ≠ 0) (start : Fin 3 → Int) :
    Host.clampedStart S16x32x128 S8x32x128 rfl start a = 0 := by
  unfold Host.clampedStart
  match a with
  | 0 => exact absurd rfl ha
  | 1 => show (min (max (start 1) 0) ((32 - 32 : ℕ) : Int)).toNat = 0; omega
  | 2 => show (min (max (start 2) 0) ((128 - 128 : ℕ) : Int)).toNat = 0; omega

theorem ix4_ext {n0 n1 n2 n3 : ℕ} {a a' : Fin n0} {b b' : Fin n1} {e e' : Fin n2} {f f' : Fin n3} (ha : a.val = a'.val) (hb : b.val = b'.val)
    (he : e.val = e'.val) (hf : f.val = f'.val) : ix4 a b e f = ix4 a' b' e' f' := by
  rw [Fin.ext ha, Fin.ext hb, Fin.ext he, Fin.ext hf]

theorem q_apply (c : Dev nD) (h : Fin 8) (b : Fin 32) (x : Fin 128) :
    (qv (W₁ m) c : S8x32x128.Idx → EReal) (ix3 h b x) = Qm m c (ix4 b 0 (headOf c h) x) := by
  show (Gen.V1 m c main_v38 : S8x32x128.Idx → EReal) (ix3 h b x) = _
  unfold Gen.V1
  after_reads_at
  have hc : 8 * (c.val / 2) ≤ 8 := by have : c.val < 4 := c.isLt; omega
  refine congrArg (Qm m c) (ix4_ext ?_ rfl ?_ ?_)
  · exact (congrArg (· + b.val) (clamp_rest 1 (by decide) _)).trans (Nat.zero_add _)
  · refine congrArg (· + h.val) (clamp_head _ hc _ ?_)
    exact (congrArg BitVec.toInt (first_head m c)).trans (by revert c; decide)
  · exact (congrArg (· + x.val) (clamp_rest 2 (by decide) _)).trans (Nat.zero_add _)

theorem out_apply (c : Dev nD) (b : Fin 32) (h : Fin 16) (d : Fin 128) :
    (Gen.V3 m (outs m) c main_v43 : S32x1x16x128.Idx → EReal) (ix4 b 0 h d) = (outv (W₁ m) c : S16x32x128.Idx → EReal) (ix3 h b d) := by
  unfold Gen.V3
  after_reads_at
  exact congrFun (W₂_v41 m c) _

end Cert.KernelIdeal.Paged

end
-- ==== Proof.RefAt.lean ====
/-
  The reference's result, read at one element, over the extended reals: the softmax over the entries of the block
  table (`Cert.Arith.plain`) of the scores, against the values that the entries name.
-/
module

public import proofs.«01_k».proof.Proof.Gen.ReferenceIdeal.Run
public import proofs.«01_k».proof.Proof.Arith
public import Idealize.ShloMosaic.Lib.Pointwise

@[expose] public section

set_option maxRecDepth 16384

noncomputable section

namespace Cert.ReferenceIdeal.Paged

open Idealize.ShloMosaic Idealize.ShloMosaic.TcCoe Idealize.SL.Sem Cert.ReferenceIdeal Cert.ReferenceIdeal.Gen

/-! ## The stages -/

def entry (bt : IVec S32x256 32) : IVec S32x256x1 32 :=
  broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 512#32))) bt)
def taken (x : FVec Ideal S512x32x16x128 .f32) (i : IVec S32x256x1 32) : FVec Ideal S32x256x32x16x128 .f32 :=
  Host.gather gather_S512x32x16x128_S32x256x1_S32x256x32x16x128_234_0_n_n_0_2_13216128 x i
def used (ln : IVec S32 32) : IVec S32x256 1 :=
  cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 ln))
def scored (q : FVec Ideal S32x1x16x128 .f32) (k : FVec Ideal S32x256x32x16x128 .f32) (o : IVec S32x256 1) : FVec Ideal S32x16x1x256x32 .f32 :=
  select (broadcastInDim S32x16x1x256x32 ![0, 1, 2, 3, 4] bcast_S32x1x1x256x1_S32x16x1x256x32_0_1_2_3_4 (broadcastInDim S32x1x1x256x1 ![0, 3] bcast_S32x256_S32x1x1x256x1_0_3 o))
    (mulf (Host.dotGeneral dot_S32x1x16x128_S32x256x32x16x128_S32x16x1x256x32_3_4_1_12_02_03 none q k) (broadcastInDim S32x16x1x256x32 ![] bcast_S_S32x16x1x256x32 (constant S_ .f32 0x3DB504F3#32)))
    (broadcastInDim S32x16x1x256x32 ![] bcast_S_S32x16x1x256x32 (id (constant S_ .f32 0xFF800000#32)))
def over (x : FVec Ideal S32x16x1 .f32) : FVec Ideal S32x16x1x256x32 .f32 :=
  broadcastInDim S32x16x1x256x32 ![0, 1, 2, 3, 4] bcast_S32x16x1x1x1_S32x16x1x256x32_0_1_2_3_4 (broadcastInDim S32x16x1x1x1 ![0, 1, 2] bcast_S32x16x1_S32x16x1x1x1_0_1_2 x)
def most (s : FVec Ideal S32x16x1x256x32 .f32) : FVec Ideal S32x16x1 .f32 :=
  Host.reduce FloatOps.maximumf s (constant S_ .f32 0xFF800000#32) reducesTo_S32x16x1x256x32_S32x16x1_d3_4 h_S_
def summed (s : FVec Ideal S32x16x1x256x32 .f32) : FVec Ideal S32x16x1 .f32 :=
  Host.reduceAdd s (constant S_ .f32 0x00000000#32) reducesTo_S32x16x1x256x32_S32x16x1_d3_4 h_S_
def raised (s : FVec Ideal S32x16x1x256x32 .f32) : FVec Ideal S32x16x1x256x32 .f32 := Host.exp (subf s (over (most s)))
def shares (e : FVec Ideal S32x16x1x256x32 .f32) : FVec Ideal S32x16x1x256x32 .f32 := Host.divf e (over (summed e))
def result (v : FVec Ideal S32x256x32x16x128 .f32) (p : FVec Ideal S32x16x1x256x32 .f32) : FVec Ideal S32x1x16x128 .f32 :=
  transpose S32x1x16x128 [0, 3, 1, 2] (Host.dotGeneral dot_S32x256x32x16x128_S32x16x1x256x32_S32x16x128x1_12_34_4_2_03_01 none v p) transposes_S32x16x128x1_S32x1x16x128_0_3_1_2

variable (m : (ℓ : Loc nD τ sig) → Buf (Elt Ideal) ℓ)

def Qr (c : Dev nD) : S32x1x16x128.Idx → EReal := m ((c.tc : Thread nD τ).loc main_arg0)
def Kr (c : Dev nD) : S512x32x16x128.Idx → EReal := m ((c.tc : Thread nD τ).loc main_arg1)
def Vr (c : Dev nD) : S512x32x16x128.Idx → EReal := m ((c.tc : Thread nD τ).loc main_arg2)
def Bt (c : Dev nD) : S32x256.Idx → BitVec 32 := m ((c.tc : Thread nD τ).loc main_arg3)
def Ln (c : Dev nD) : S32.Idx → BitVec 32 := m ((c.tc : Thread nD τ).loc main_arg4)

theorem res_eq (c : Dev nD) : (Value.res_main_v35 (F := Ideal) m c : S32x1x16x128.Idx → EReal)
    = result (taken (Vr m c) (entry (Bt m c))) (shares (raised (scored (Qr m c) (taken (Kr m c) (entry (Bt m c))) (used (Ln m c))))) := rfl

/-! ## Each at an element -/

theorem entry_apply (bt : IVec S32x256 32) (b : Fin 32) (j : Fin 256) :
    entry bt (ix3 b j 0) = if (bt (ix2 b j)).slt 0#32 = true then bt (ix2 b j) + 512#32 else bt (ix2 b j) := by
  pointwise [entry]
  show Scalar.select (BitVec.ofBool ((bt (ix2 b j)).slt 0#32)) (bt (ix2 b j) + 512#32) (bt (ix2 b j)) = _
  cases (bt (ix2 b j)).slt 0#32 <;> rfl
theorem used_apply (ln : IVec S32 32) (b : Fin 32) (j : Fin 256) :
    used ln (ix2 b j) = BitVec.ofBool ((BitVec.ofNat 32 j.val).slt (ln (ix1 b))) := by
  pointwise [used]
  rfl
theorem scored_apply (q : FVec Ideal S32x1x16x128 .f32) (k : FVec Ideal S32x256x32x16x128 .f32) (o : IVec S32x256 1) (b : Fin 32) (h : Fin 16) (j : Fin 256) (r : Fin 32) :
    (scored q k o : S32x16x1x256x32.Idx → EReal) (ix5 b h 0 j r)
      = if o (ix2 b j) = 1#1 then (∑ x, q (ix4 b 0 h x) * k (ix5 b j r h x)) * Ideal.ofBits .f32 0x3DB504F3#32 else Ideal.ofBits .f32 0xFF800000#32 := by
  pointwise [scored]
  rcases BitVec.eq_zero_or_eq_one (o (ix2 b j)) with e | e <;> rw [e] <;> rfl
theorem over_apply (x : FVec Ideal S32x16x1 .f32) (b : Fin 32) (h : Fin 16) (j : Fin 256) (r : Fin 32) :
    (over x : S32x16x1x256x32.Idx → EReal) (ix5 b h 0 j r) = x (ix3 b h 0) := by
  pointwise [over]
theorem raised_apply (s : FVec Ideal S32x16x1x256x32 .f32) (b : Fin 32) (h : Fin 16) (j : Fin 256) (r : Fin 32) :
    (raised s : S32x16x1x256x32.Idx → EReal) (ix5 b h 0 j r) = Ideal.exp (s (ix5 b h 0 j r) - most s (ix3 b h 0)) := by
  rw [← over_apply (most s) b h j r]; rfl
theorem shares_apply (e : FVec Ideal S32x16x1x256x32 .f32) (b : Fin 32) (h : Fin 16) (j : Fin 256) (r : Fin 32) :
    (shares e : S32x16x1x256x32.Idx → EReal) (ix5 b h 0 j r) = Ideal.div (e (ix5 b h 0 j r)) (summed e (ix3 b h 0)) := by
  rw [← over_apply (summed e) b h j r]; rfl
theorem result_apply (v : FVec Ideal S32x256x32x16x128 .f32) (p : FVec Ideal S32x16x1x256x32 .f32) (b : Fin 32) (h : Fin 16) (d : Fin 128) :
    (result v p : S32x1x16x128.Idx → EReal) (ix4 b 0 h d) = ∑ j, ∑ r, v (ix5 b j r h d) * p (ix5 b h 0 j r) := by
  pointwise [result]

/-! ## The reductions over entries and rows -/

theorem drop_at (b : Fin 32) (h : Fin 16) (i : S32x16x1x256x32.Idx) :
    reducesTo_S32x16x1x256x32_S32x16x1_d3_4.drop i = ix3 b h 0 ↔ ∃ k : Fin 256 × Fin 32, (ix5 b h 0 k.1 k.2 : S32x16x1x256x32.Idx) = i := by
  constructor
  · intro e
    refine ⟨(i 3, i 4), funext fun a => ?_⟩
    match a with
    | ⟨0, _⟩ => exact (congrFun e 0).symm
    | ⟨1, _⟩ => exact (congrFun e 1).symm
    | ⟨2, _⟩ => exact (congrFun e 2).symm
    | ⟨3, _⟩ => rfl
    | ⟨4, _⟩ => rfl
  · rintro ⟨k, rfl⟩
    funext a
    match a with
    | ⟨0, _⟩ => rfl
    | ⟨1, _⟩ => rfl
    | ⟨2, _⟩ => rfl
theorem at_injective (b : Fin 32) (h : Fin 16) : Function.Injective fun k : Fin 256 × Fin 32 => (ix5 b h 0 k.1 k.2 : S32x16x1x256x32.Idx) :=
  fun _ _ e => Prod.ext (congrFun e 3) (congrFun e 4)

theorem most_apply (s : FVec Ideal S32x16x1x256x32 .f32) (b : Fin 32) (h : Fin 16) :
    (most s : S32x16x1.Idx → EReal) (ix3 b h 0)
      = (Finset.univ : Finset (Fin 256 × Fin 32)).fold max ⊥ fun k => (s : S32x16x1x256x32.Idx → EReal) (ix5 b h 0 k.1 k.2) := by
  have hb : Ideal.ofBits .f32 0xFF800000#32 = ⊥ := by simp [Ideal.ofBits, Ideal.ieee]
  unfold most
  refine (Host.reduce_eq_fold _ _ _ _ _ _).trans ?_
  refine (Finset.fold_filter_eq_fold_of_fiber _ _ _ (at_injective b h) (drop_at b h) _ _).trans ?_
  rw [← hb]
  rfl
theorem summed_apply (s : FVec Ideal S32x16x1x256x32 .f32) (b : Fin 32) (h : Fin 16) :
    (summed s : S32x16x1.Idx → EReal) (ix3 b h 0) = ∑ k : Fin 256 × Fin 32, (s : S32x16x1x256x32.Idx → EReal) (ix5 b h 0 k.1 k.2) := by
  have hb : Ideal.ofBits .f32 0x00000000#32 = 0 := by simp [Ideal.ofBits, Ideal.ieee]
  unfold summed
  show Ideal.ofBits .f32 0x00000000#32 + _ = _
  rw [hb, zero_add]
  exact Finset.sum_filter_eq_sum_of_fiber _ _ (at_injective b h) (drop_at b h) _

/-! ## The gather -/

/-- The page that entry `j` of request `b` names, read signed and clamped into the range. -/
def pageIdx (i : IVec S32x256x1 32) (b : Fin 32) (j : Fin 256) : Fin 512 := ⟨min (i (ix3 b j 0)).toInt.toNat 511, by omega⟩

theorem taken_apply (x : FVec Ideal S512x32x16x128 .f32) (i : IVec S32x256x1 32) (b : Fin 32) (j : Fin 256) (r : Fin 32) (h : Fin 16) (d : Fin 128) :
    (taken x i : S32x256x32x16x128.Idx → EReal) (ix5 b j r h d) = x (ix4 (pageIdx i b j) r h d) := by
  unfold taken Host.gather
  congr 1
  funext a
  refine Fin.ext ?_
  show GatherDims.start _ _ i a + GatherDims.batchCoord _ _ a + GatherDims.offCoord _ _ a = _
  rw [GatherDims.batchCoord_eq_zero _ _ _ List.not_mem_nil, Nat.add_zero]
  have start0 (a : Fin 4) (ha : a ∉ ([0] : List (Fin 4))) :
      GatherDims.start gather_S512x32x16x128_S32x256x1_S32x256x32x16x128_234_0_n_n_0_2_13216128 (ix5 b j r h d) i a = 0 := dif_neg ha
  match a with
  | ⟨0, _⟩ =>
    rw [GatherDims.offCoord_eq_zero _ _ _ (fun h => ((GatherDims.mem_sKept _ _).mp h).1 (List.mem_singleton.mpr rfl)), Nat.add_zero]
    refine (dif_pos (List.mem_singleton.mpr rfl)).trans ?_
    have hi : GatherDims.siIdx gather_S512x32x16x128_S32x256x1_S32x256x32x16x128_234_0_n_n_0_2_13216128 (ix5 b j r h d) ⟨0, Nat.one_pos⟩
        = ix3 b j 0 := funext fun b' => Fin.ext (match b' with
          | ⟨0, _⟩ => rfl
          | ⟨1, _⟩ => rfl
          | ⟨2, _⟩ => rfl)
    exact congrArg (fun z => min (i z).toInt.toNat 511) hi
  | ⟨1, _⟩ =>
    refine (congrArg₂ (· + ·) (start0 1 (by decide)) (dif_pos ((GatherDims.mem_sKept _ _).2 ⟨?_, ?_⟩))).trans (Nat.zero_add _)
    · show (1 : Fin 4) ∉ ([0] : List (Fin 4)); decide
    · exact List.not_mem_nil
  | ⟨2, _⟩ =>
    refine (congrArg₂ (· + ·) (start0 2 (by decide)) (dif_pos ((GatherDims.mem_sKept _ _).2 ⟨?_, ?_⟩))).trans (Nat.zero_add _)
    · show (2 : Fin 4) ∉ ([0] : List (Fin 4)); decide
    · exact List.not_mem_nil
  | ⟨3, _⟩ =>
    refine (congrArg₂ (· + ·) (start0 3 (by decide)) (dif_pos ((GatherDims.mem_sKept _ _).2 ⟨?_, ?_⟩))).trans (Nat.zero_add _)
    · show (3 : Fin 4) ∉ ([0] : List (Fin 4)); decide
    · exact List.not_mem_nil

/-! ## The result -/

/-- The score of entry and row `k`, whether the entry is in use, and its value. -/
def sAt (c : Dev nD) (b : Fin 32) (h : Fin 16) (k : Fin 256 × Fin 32) : EReal :=
  (∑ x : Fin 128, Qr m c (ix4 b 0 h x) * Kr m c (ix4 (pageIdx (entry (Bt m c)) b k.1) k.2 h x)) * Ideal.ofBits .f32 0x3DB504F3#32
def vAt (c : Dev nD) (b : Fin 32) (h : Fin 16) (d : Fin 128) (k : Fin 256 × Fin 32) : EReal :=
  Vr m c (ix4 (pageIdx (entry (Bt m c)) b k.1) k.2 h d)
abbrev ok (c : Dev nD) (b : Fin 32) (j : Fin 256) : Prop := (BitVec.ofNat 32 j.val).slt (Ln m c (ix1 b)) = true

theorem scored_at (c : Dev nD) (b : Fin 32) (h : Fin 16) (k : Fin 256 × Fin 32) :
    (scored (Qr m c) (taken (Kr m c) (entry (Bt m c))) (used (Ln m c)) : S32x16x1x256x32.Idx → EReal) (ix5 b h 0 k.1 k.2)
      = Cert.Arith.gated (fun k : Fin 256 × Fin 32 => ok m c b k.1) (sAt m c b h) k := by
  have hb : Ideal.ofBits .f32 0xFF800000#32 = ⊥ := by simp [Ideal.ofBits, Ideal.ieee]
  rw [scored_apply, hb, used_apply]
  simp only [taken_apply]
  by_cases hk : (BitVec.ofNat 32 k.1.val).slt (Ln m c (ix1 b)) = true
  · rw [hk, if_pos (by decide)]; exact (if_pos hk).symm
  · rw [Bool.eq_false_of_not_eq_true hk, if_neg (by decide)]; exact (if_neg hk).symm

theorem raised_at (c : Dev nD) (b : Fin 32) (h : Fin 16) (k : Fin 256 × Fin 32) :
    (raised (scored (Qr m c) (taken (Kr m c) (entry (Bt m c))) (used (Ln m c))) : S32x16x1x256x32.Idx → EReal) (ix5 b h 0 k.1 k.2)
      = Cert.Arith.expg (fun k : Fin 256 × Fin 32 => ok m c b k.1) (sAt m c b h) k := by
  rw [raised_apply, scored_at, most_apply]
  simp only [scored_at]
  rfl

theorem res_apply (c : Dev nD) (b : Fin 32) (h : Fin 16) (d : Fin 128) :
    (Value.res_main_v35 (F := Ideal) m c : S32x1x16x128.Idx → EReal) (ix4 b 0 h d)
      = Cert.Arith.plain (fun k : Fin 256 × Fin 32 => ok m c b k.1) (sAt m c b h) (vAt m c b h d) := by
  refine (congrFun (res_eq m c) _).trans ((result_apply _ _ b h d).trans ?_)
  unfold Cert.Arith.plain
  rw [Fintype.sum_prod_type]
  refine Finset.sum_congr rfl fun j _ => Finset.sum_congr rfl fun r _ => ?_
  rw [taken_apply, shares_apply, summed_apply]
  simp only [raised_at m c b h]
  rw [raised_at m c b h (j, r)]
  rfl

end Cert.ReferenceIdeal.Paged

end
-- ==== Proof.Served.lean ====
/-
  What the precondition says, element by element: every request has a page, the pages in use are among the 512,
  the queries and the keys are real numbers.
-/
module

public import proofs.«01_k».proof.Pre_served_KernelIdeal
public import Idealize.ShloMosaic.PureOps.Ideal.Laws
public import Idealize.ShloMosaic.Lib.Pointwise
public import Idealize.ShloMosaic.Lib.ReduceAll

@[expose] public section

set_option maxRecDepth 16384

noncomputable section

namespace Cert.Served

open Idealize.ShloMosaic Cert.Pre_served_KernelIdeal

theorem both : ∀ x y : BitVec 1, IntOp.andi x y = 1#1 → x = 1#1 ∧ y = 1#1 := by decide

theorem left : ∀ x : BitVec 1, IntOp.ori x (~~~(1#1)) = 1#1 → x = 1#1 := by decide

/-- A value whose magnitude is below plus infinity is real. -/
theorem real_of_abs {x : EReal}
    (h : BitVec.ofBool (decide ((FloatOps.absf (F := Ideal) (φ := .f32) x : EReal) < Ideal.ofBits .f32 0x7F800000#32)) = 1#1) : ∃ r : ℝ, x = r := by
  have htop : Ideal.ofBits .f32 0x7F800000#32 = ⊤ := by simp [Ideal.ofBits, Ideal.ieee]
  rw [htop] at h
  have h' : max x (-x) < ⊤ := by
    by_contra hn
    rw [show decide ((FloatOps.absf (F := Ideal) (φ := .f32) x : EReal) < ⊤) = false from decide_eq_false hn] at h
    exact absurd h (by decide)
  refine ⟨x.toReal, (EReal.coe_toReal ?_ ?_).symm⟩
  · rintro rfl; simp at h'
  · rintro rfl; simp at h'

theorem served_reads [Facts] (q : FVec Ideal S32x1x16x128 .f32) (k v : FVec Ideal S256x32x16x128 .f32) (bt : IVec S32x256 32) (ln : IVec S32 32)
    (e : fn (F := Ideal) q k v bt ln = fun _ => 1#1) :
    (∀ (b : Fin 32) (j : Fin 256), (BitVec.ofNat 32 j.val).slt (ln (ix1 b)) = true → 0 ≤ (bt (ix2 b j)).toInt ∧ (bt (ix2 b j)).toInt < 512)
      ∧ (∀ b : Fin 32, 1 ≤ (ln (ix1 b)).toInt)
      ∧ (∀ i, ∃ r : ℝ, (q i : EReal) = r) ∧ (∀ i, ∃ r : ℝ, (k i : EReal) = r) := by
  have e0 := congrFun e ix0
  unfold fn fn_part1 at e0
  obtain ⟨e1, ek⟩ := both _ _ e0
  obtain ⟨e2, eq⟩ := both _ _ e1
  obtain ⟨eb, el⟩ := both _ _ e2
  have : Subsingleton S_.Idx := ⟨fun x y => funext fun a => a.elim0⟩
  have hk := fun i => Host.reduce_andi_all _ _ _ _ _ ek i
  have hq := fun i => Host.reduce_andi_all _ _ _ _ _ eq i
  have hl := fun b : Fin 32 => Host.reduce_andi_all _ _ _ _ _ el (ix1 b)
  have hb := fun (b : Fin 32) (j : Fin 256) => Host.reduce_andi_all _ _ _ _ _ eb (ix2 b j)
  clear ek eq el eb e0 e1 e2 e
  pointwise at hl
  pointwise at hb
  pointwise at hk
  pointwise at hq
  refine ⟨fun b j hj => ?_, fun b => IntOp.cmpi_sge.1 (hl b), fun i => real_of_abs (hq i), fun i => real_of_abs (hk i)⟩
  have h1 : IntOp.cmpi .slt (BitVec.ofNat 32 j.val) (ln (ix1 b)) = 1#1 := congrArg BitVec.ofBool hj
  have h2 := hb b j
  rw [h1] at h2
  obtain ⟨h3, h4⟩ := both _ _ (left _ h2)
  exact ⟨IntOp.cmpi_sge.1 h3, IntOp.cmpi_slt.1 h4⟩

end Cert.Served

end
-- ==== Proof.Equal.lean ====
/-
  The value claim: under the precondition every device ends with the reference's whole result.

  Both programs are read at one element (request `b`, head `h`, lane `d`) as the two sides of
  `Cert.Arith.agree`: the half of the pages held by the device that merges the head and the other half of its
  peer, against the entries of the block table.
-/
module

public import proofs.«01_k».proof.Defs
public import proofs.«01_k».proof.Proof.HostAt
public import proofs.«01_k».proof.Proof.RefAt
public import proofs.«01_k».proof.Proof.Served
public import proofs.«01_k».proof.Proof.Launch

@[expose] public section

set_option maxRecDepth 16384

noncomputable section

namespace Cert.Equal

open Idealize.ShloMosaic Idealize.ShloMosaic.TcCoe Idealize.SL.Sem

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-! ## The blocks -/

theorem block_row : ∀ c : Fin 4, Layout.meshLin [2, 2] c.val [1] = c.val % 2 := by decide

/-- Page `p` of device `c`'s block is page `256 y + p` of the whole, `y` the device's column. -/
theorem block_apply (c : Fin 4) (v : (⟨4, ![512, 32, 16, 128]⟩ : Shape).Idx → EReal) (p : Fin 256) (r : Fin 32) (h : Fin 16) (x : Fin 128)
    (g : Fin 512) (hg : g.val = 256 * (c.val % 2) + p.val) :
    (Layout.blockN ⟨4, ![256, 32, 16, 128]⟩ ⟨4, ![512, 32, 16, 128]⟩ (Layout.meshBlock [2, 2] ![[1], [], [], []] c) v :
        (⟨4, ![256, 32, 16, 128]⟩ : Shape).Idx → EReal) (ix4 p r h x)
      = v (ix4 g r h x) := by
  rw [Layout.blockN_apply]
  refine congrArg v (funext fun a => Fin.ext ?_)
  match a with
  | ⟨0, _⟩ =>
    show Layout.meshLin [2, 2] c.val [1] * 256 + p.val = g.val
    rw [block_row, hg, Nat.mul_comm]
  | ⟨1, _⟩ => show 0 * 32 + r.val = r.val; omega
  | ⟨2, _⟩ => show 0 * 16 + h.val = h.val; omega
  | ⟨3, _⟩ => show 0 * 128 + x.val = x.val; omega

/-! ## Real scores -/

theorem real_sum {ι : Type} [Fintype ι] (f : ι → EReal) (hf : ∀ i, ∃ r : ℝ, f i = (r : EReal)) : ∃ r : ℝ, ∑ i, f i = (r : EReal) := by
  choose g hg using hf
  exact ⟨∑ i, g i, by rw [Cert.Arith.coe_sum]; exact Finset.sum_congr rfl fun i _ => hg i⟩
theorem real_mul {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

/-! ## Page numbers as words -/

/-- A page number in range is read by the gather as it is. -/
theorem page_of (bt : IVec Cert.ReferenceIdeal.S32x256 32) (b : Fin 32) (j : Fin 256)
    (h0 : 0 ≤ (bt (ix2 b j)).toInt) (h1 : (bt (ix2 b j)).toInt < 512) :
    (Cert.ReferenceIdeal.Paged.pageIdx (Cert.ReferenceIdeal.Paged.entry bt) b j).val = (bt (ix2 b j)).toInt.toNat := by
  show min (Cert.ReferenceIdeal.Paged.entry bt (ix3 b j 0)).toInt.toNat 511 = _
  rw [Cert.ReferenceIdeal.Paged.entry_apply, if_neg]
  · omega
  · intro h
    have := BitVec.slt_iff_toInt_lt.1 h
    rw [show (0#32 : BitVec 32).toInt = 0 from by decide] at this
    omega

/-- A word in range is the word of `g` just when it reads as `g`. -/
theorem word_eq_iff (w : BitVec 32) (h0 : 0 ≤ w.toInt) (h1 : w.toInt < 512) (g : Fin 512) :
    w = BitVec.ofNat 32 g.val ↔ w.toInt.toNat = g.val := by
  have hg := g.isLt
  have hw := w.isLt
  have e : w.toInt = w.toNat := by
    rw [BitVec.toInt_eq_toNat_cond] at h0 ⊢
    split at h0 <;> split <;> omega
  rw [e, Int.toNat_natCast]
  constructor
  · intro h
    rw [h, BitVec.toNat_ofNat]
    omega
  · intro h
    apply BitVec.eq_of_toNat_eq
    rw [BitVec.toNat_ofNat]
    omega

/-! ## The devices of a column -/

theorem peer_col : ∀ (c : Fin 4) (y : Fin 2), y.val = c.val % 2 → (1 - y : Fin 2).val = (Cert.KernelIdeal.Paged.yp c).val % 2 := by decide
theorem peer_head : ∀ (c : Fin 4) (h : Fin 8), Cert.KernelIdeal.Paged.headOf (Cert.KernelIdeal.Paged.yp c) h = Cert.KernelIdeal.Paged.headOf c h := by decide
theorem merge_head : ∀ (c : Fin 4) (h : Fin 16), Cert.KernelIdeal.Paged.headOf (Cert.KernelIdeal.Paged.inCol c ⟨h.val / 8, by omega⟩)
    (⟨h.val % 8, Nat.mod_lt _ (by decide)⟩ : Fin 8) = h := by decide

/-! ## The two memories -/

section Agreement
variable (m : KMem) (m' : RMem)

/-- What the claim gives: the devices' arguments are the reference's, or their blocks of it, and satisfy the precondition. -/
structure Given : Prop where
  q : ∀ c, Cert.KernelIdeal.Paged.Qm m c = Cert.ReferenceIdeal.Paged.Qr m' 0
  k : ∀ (c : Dev Cert.KernelIdeal.nD) (p : Fin 256) (r : Fin 32) (h : Fin 16) (x : Fin 128) (g : Fin 512), g.val = 256 * (c.val % 2) + p.val →
    Cert.KernelIdeal.Paged.Km m c (ix4 p r h x) = Cert.ReferenceIdeal.Paged.Kr m' 0 (ix4 g r h x)
  v : ∀ (c : Dev Cert.KernelIdeal.nD) (p : Fin 256) (r : Fin 32) (h : Fin 16) (x : Fin 128) (g : Fin 512), g.val = 256 * (c.val % 2) + p.val →
    Cert.KernelIdeal.Paged.Vm m c (ix4 p r h x) = Cert.ReferenceIdeal.Paged.Vr m' 0 (ix4 g r h x)
  bt : ∀ c, Cert.KernelIdeal.Paged.Bt m c = Cert.ReferenceIdeal.Paged.Bt m' 0
  ln : ∀ c, Cert.KernelIdeal.Paged.Ln m c = Cert.ReferenceIdeal.Paged.Ln m' 0
  page : ∀ (b : Fin 32) (j : Fin 256), Cert.ReferenceIdeal.Paged.ok m' 0 b j →
    0 ≤ (Cert.ReferenceIdeal.Paged.Bt m' 0 (ix2 b j)).toInt ∧ (Cert.ReferenceIdeal.Paged.Bt m' 0 (ix2 b j)).toInt < 512
  some : ∀ b : Fin 32, 1 ≤ (Cert.ReferenceIdeal.Paged.Ln m' 0 (ix1 b)).toInt
  qreal : ∀ i, ∃ r : ℝ, Cert.ReferenceIdeal.Paged.Qr m' 0 i = (r : EReal)
  kreal : ∀ (c : Dev Cert.KernelIdeal.nD) (i : Cert.KernelIdeal.S256x32x16x128.Idx), ∃ r : ℝ, Cert.KernelIdeal.Paged.Km m c i = (r : EReal)

variable {m m'} (G : Given m m')
include G

theorem Given.key_real (g : Fin 512) (r : Fin 32) (h : Fin 16) (x : Fin 128) :
    ∃ z : ℝ, Cert.ReferenceIdeal.Paged.Kr m' 0 (ix4 g r h x) = (z : EReal) := by
  have hy : g.val / 256 < 4 := by omega
  rw [← G.k ⟨g.val / 256, hy⟩ ⟨g.val % 256, by omega⟩ r h x g (by show g.val = 256 * (g.val / 256 % 2) + g.val % 256; omega)]
  exact G.kreal _ _

/-- The score of page `g`, row `r`. -/
def scoreOf (m' : RMem) (b : Fin 32) (h : Fin 16) (g : Fin 512) (r : Fin 32) : EReal :=
  (∑ x : Fin 128, Cert.ReferenceIdeal.Paged.Qr m' 0 (ix4 b 0 h x) * Cert.ReferenceIdeal.Paged.Kr m' 0 (ix4 g r h x)) * Ideal.ofBits .f32 0x3DB504F3#32

theorem Given.score_real (b : Fin 32) (h : Fin 16) (g : Fin 512) (r : Fin 32) : ∃ z : ℝ, scoreOf m' b h g r = (z : EReal) :=
  real_mul (real_sum _ fun _ => real_mul (G.qreal _) (G.key_real g r h _)) Cert.KernelIdeal.Paged.scale_bits

abbrev pg (m' : RMem) (b : Fin 32) (j : Fin 256) : Fin 512 :=
  Cert.ReferenceIdeal.Paged.pageIdx (Cert.ReferenceIdeal.Paged.entry (Cert.ReferenceIdeal.Paged.Bt m' 0)) b j

/-! ## The kernel's scores, weights and values, by page -/

theorem Given.s_at (c : Dev Cert.KernelIdeal.nD) (y : Fin 2) (hy : y.val = c.val % 2) (hh : Fin 8) (b : Fin 32) (t : Fin 8192) :
    Cert.KernelIdeal.Paged.sAt (Cert.KernelIdeal.Paged.W₁ m) c hh b t
      = scoreOf m' b (Cert.KernelIdeal.Paged.headOf c hh) (Cert.Arith.pageOf y t) (Cert.Arith.rowOf t) := by
  unfold Cert.KernelIdeal.Paged.sAt scoreOf
  refine congrArg (· * Ideal.ofBits .f32 0x3DB504F3#32) (Finset.sum_congr rfl fun x _ => ?_)
  rw [Cert.KernelIdeal.Paged.q_apply, Cert.KernelIdeal.Paged.k_apply, G.q c]
  exact congrArg _ (G.k c _ _ _ _ (Cert.Arith.pageOf y t) (by show 256 * y.val + t.val / 32 = _; rw [hy]))

theorem Given.v_at (c : Dev Cert.KernelIdeal.nD) (y : Fin 2) (hy : y.val = c.val % 2) (hh : Fin 8) (d : Fin 128) (t : Fin 8192) :
    Cert.KernelIdeal.Paged.vAt (Cert.KernelIdeal.Paged.W₁ m) c hh d t
      = Cert.ReferenceIdeal.Paged.Vr m' 0 (ix4 (Cert.Arith.pageOf y t) (Cert.Arith.rowOf t) (Cert.KernelIdeal.Paged.headOf c hh) d) := by
  unfold Cert.KernelIdeal.Paged.vAt
  rw [Cert.KernelIdeal.Paged.v_apply]
  exact G.v c _ _ _ _ (Cert.Arith.pageOf y t) (by show 256 * y.val + t.val / 32 = _; rw [hy])

theorem Given.w_at (c : Dev Cert.KernelIdeal.nD) (y : Fin 2) (hy : y.val = c.val % 2) (b : Fin 32) (t : Fin 8192) :
    Cert.KernelIdeal.Paged.wAt (Cert.KernelIdeal.Paged.W₁ m) c b t
      = ((Cert.Arith.named (Cert.ReferenceIdeal.Paged.ok m' 0 b) (pg m' b) (Cert.Arith.pageOf y t) : ℝ) : EReal) := by
  rw [Cert.KernelIdeal.Paged.w_apply, G.bt c, G.ln c]
  unfold Cert.Arith.named
  rw [← Finset.sum_boole, Cert.Arith.coe_sum]
  refine Finset.sum_congr rfl fun j _ => ?_
  have hiff : (Cert.ReferenceIdeal.Paged.Bt m' 0 (ix2 b j) = BitVec.ofNat 32 (256 * (c.val % 2) + t.val / 32)
      ∧ (BitVec.ofNat 32 j.val).slt (Cert.ReferenceIdeal.Paged.Ln m' 0 (ix1 b)) = true)
      ↔ (Cert.ReferenceIdeal.Paged.ok m' 0 b j ∧ pg m' b j = Cert.Arith.pageOf y t) := by
    rw [and_comm]
    refine and_congr_right fun hj => ?_
    obtain ⟨h0, h1⟩ := G.page b j hj
    have e : 256 * (c.val % 2) + t.val / 32 = (Cert.Arith.pageOf y t).val := by
      show _ = 256 * y.val + t.val / 32
      rw [hy]
    rw [e, word_eq_iff _ h0 h1, ← page_of _ b j h0 h1]
    exact Fin.ext_iff.symm
  by_cases h : Cert.ReferenceIdeal.Paged.ok m' 0 b j ∧ pg m' b j = Cert.Arith.pageOf y t
  · rw [if_pos (hiff.2 h), if_pos h]; rfl
  · rw [if_neg (fun h' => h (hiff.1 h')), if_neg h]; rfl

/-- The half that device `c` merges is the reference's result at its heads. -/
theorem Given.half_eq (c : Dev Cert.KernelIdeal.nD) (hh : Fin 8) (b : Fin 32) (d : Fin 128) :
    (Cert.KernelIdeal.Paged.half (Cert.KernelIdeal.Paged.W₁ m) c : Cert.KernelIdeal.S8x32x128.Idx → EReal) (ix3 hh b d)
      = (Cert.ReferenceIdeal.Value.res_main_v35 (F := Ideal) m' 0 : Cert.ReferenceIdeal.S32x1x16x128.Idx → EReal)
        (ix4 b 0 (Cert.KernelIdeal.Paged.headOf c hh) d) := by
  refine (Cert.KernelIdeal.Paged.half_apply _ c hh b d).trans
    (Eq.trans ?_ (Cert.ReferenceIdeal.Paged.res_apply m' 0 b (Cert.KernelIdeal.Paged.headOf c hh) d).symm)
  obtain ⟨neg, hneg⟩ := Cert.KernelIdeal.Paged.neg_bits
  rw [hneg]
  choose x hx using fun g r => G.score_real b (Cert.KernelIdeal.Paged.headOf c hh) g r
  have hy : (⟨c.val % 2, Nat.mod_lt _ (by decide)⟩ : Fin 2).val = c.val % 2 := rfl
  generalize (⟨c.val % 2, Nat.mod_lt _ (by decide)⟩ : Fin 2) = y at hy
  have hy' := peer_col c y hy
  have hp := peer_head c hh
  refine Cert.Arith.agree neg y (Cert.ReferenceIdeal.Paged.ok m' 0 b) (pg m' b) ⟨0, ?_⟩ x
    (fun g r => Cert.ReferenceIdeal.Paged.Vr m' 0 (ix4 g r (Cert.KernelIdeal.Paged.headOf c hh) d)) _ _ _ _ _ _ _ _
    (fun t => ?_) (fun t => ?_) (fun t => ?_) (fun t => ?_) (fun t => ?_) (fun t => ?_) (fun i _ => ?_) (fun i => ?_)
  · refine BitVec.slt_iff_toInt_lt.2 ?_
    have := G.some b
    show (BitVec.ofNat 32 0).toInt < _
    rw [show (BitVec.ofNat 32 0).toInt = 0 from by decide]
    omega
  · rw [G.s_at c y hy, hx]
  · exact G.w_at c y hy b t
  · exact G.v_at c y hy hh d t
  · rw [G.s_at _ _ hy', hp, hx]
  · exact G.w_at _ _ hy' b t
  · rw [G.v_at _ _ hy', hp]
  · exact hx (pg m' b i.1) i.2
  · rfl

/-- The kernel's result on every device is the reference's. -/
theorem Given.result_eq (c : Dev Cert.KernelIdeal.nD) :
    (Cert.KernelIdeal.Gen.V3 m (Cert.KernelIdeal.Paged.outs m) c Cert.KernelIdeal.main_v43 : Cert.KernelIdeal.S32x1x16x128.Idx → EReal)
      = (Cert.ReferenceIdeal.Value.res_main_v35 (F := Ideal) m' 0 : Cert.ReferenceIdeal.S32x1x16x128.Idx → EReal) := by
  funext i
  have hi : i = ix4 (n0 := 32) (n1 := 1) (n2 := 16) (n3 := 128) (i 0) 0 (i 2) (i 3) := by
    funext a
    match a with
    | ⟨0, _⟩ => rfl
    | ⟨1, _⟩ => exact Subsingleton.elim (α := Fin 1) _ _
    | ⟨2, _⟩ => rfl
    | ⟨3, _⟩ => rfl
  rw [hi]
  refine (Cert.KernelIdeal.Paged.out_apply m c _ _ _).trans ?_
  refine (G.half_eq (Cert.KernelIdeal.Paged.inCol c _) _ _ _).trans ?_
  exact congrArg (fun h => (Cert.ReferenceIdeal.Value.res_main_v35 (F := Ideal) m' 0 : Cert.ReferenceIdeal.S32x1x16x128.Idx → EReal)
    (ix4 (n0 := 32) (n1 := 1) (n2 := 16) (n3 := 128) (i 0) 0 h (i 3))) (merge_head c (i 2))

end Agreement

/-! ## The claim -/

theorem algebraic [hp : Cert.Pre_served_KernelIdeal.Facts] : Cert.algebraic_KernelIdeal_ReferenceIdeal_pre_served_KernelIdeal := fun m g m' g' hpre hag => by
  have hr := fun c => Cert.Served.served_reads _ _ _ _ _ (hpre c)
  have hbt : ∀ c, Cert.KernelIdeal.Paged.Bt m c = Cert.ReferenceIdeal.Paged.Bt m' 0 := fun c => (hag c).2.2.2.1
  have hln : ∀ c, Cert.KernelIdeal.Paged.Ln m c = Cert.ReferenceIdeal.Paged.Ln m' 0 := fun c => (hag c).2.2.2.2
  have hq : ∀ c, Cert.KernelIdeal.Paged.Qm m c = Cert.ReferenceIdeal.Paged.Qr m' 0 := fun c => (hag c).1
  have G : Given m m' :=
    { q := hq
      k := fun c p r h x e he => (congrFun (hag c).2.1 _).trans (block_apply c (Cert.ReferenceIdeal.Paged.Kr m' 0) p r h x e he)
      v := fun c p r h x e he => (congrFun (hag c).2.2.1 _).trans (block_apply c (Cert.ReferenceIdeal.Paged.Vr m' 0) p r h x e he)
      bt := hbt
      ln := hln
      page := fun b j hj => by
        rw [← hbt 0]
        refine (hr 0).1 b j ?_
        show (BitVec.ofNat 32 j.val).slt (Cert.KernelIdeal.Paged.Ln m 0 (ix1 b)) = true
        rw [hln 0]
        exact hj
      some := fun b => by
        rw [← hln 0]
        exact (hr 0).2.1 b
      qreal := fun i => by
        rw [← hq 0]
        exact (hr 0).2.2.1 i
      kreal := fun c i => (hr c).2.2.2 i }
  refine ⟨Cert.ReferenceIdeal.Value.res_main_v35 (F := Ideal) m' 0, ?_, ?_⟩
  · exact (θ_run Cert.KernelIdeal.defs _ _).mono (fun _ h c => ⟨(h.1 c).1.trans (G.result_eq c), (h.1 c).2⟩)
      (Cert.KernelIdeal.Paged.run_main (F := Ideal) m g)
  · exact (θ_run Cert.ReferenceIdeal.defs _ _).mono (fun _ h => h 0) (Cert.ReferenceIdeal.Value.run (F := Ideal) m' g')

end Cert.Equal

end
-- ==== Proof.lean ====
/-
  The certificate's proof: the frames of the three programs, that the idealization is the kernel's own text,
  and that under the precondition every device ends with the reference's result.
-/
module

public import proofs.«01_k».proof.Defs
public import proofs.«01_k».proof.Proof.Frames
public import proofs.«01_k».proof.Proof.Equal

@[expose] public section

noncomputable section

namespace Cert.Proof

/-- Every claim of the certificate. -/
theorem claim : Cert.Claim := ⟨Cert.Kernel.Gen.facts, Cert.KernelIdeal.Gen.facts, Cert.ReferenceIdeal.Gen.facts,
  Cert.Frames.facts_kernel, Cert.Frames.facts_reference,
  Cert.Frames.frame_kernel, Cert.Frames.frame_ideal, Cert.Frames.frame_ideal_served, Cert.Frames.frame_reference,
  Cert.Frames.frame_reference_served, Cert.Frames.same_text, Cert.Equal.algebraic⟩

end Cert.Proof

end
